-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S200x81920 : Shape := ⟨2, ![200, 81920]⟩
abbrev S32x15368x128 : Shape := ⟨3, ![32, 15368, 128]⟩
abbrev S81920x768 : Shape := ⟨2, ![81920, 768]⟩
abbrev S776x81920 : Shape := ⟨2, ![776, 81920]⟩
abbrev S8x81920 : Shape := ⟨2, ![8, 81920]⟩
abbrev S192x1280 : Shape := ⟨2, ![192, 1280]⟩
abbrev S8x1280 : Shape := ⟨2, ![8, 1280]⟩
abbrev S1x7680x128 : Shape := ⟨3, ![1, 7680, 128]⟩
abbrev S1280x768 : Shape := ⟨2, ![1280, 768]⟩
abbrev S776x1280 : Shape := ⟨2, ![776, 1280]⟩
abbrev S768x128 : Shape := ⟨2, ![768, 128]⟩
abbrev S8x128 : Shape := ⟨2, ![8, 128]⟩
abbrev S1x128x128 : Shape := ⟨3, ![1, 128, 128]⟩
abbrev S128x128 : Shape := ⟨2, ![128, 128]⟩
abbrev S16x8x128 : Shape := ⟨3, ![16, 8, 128]⟩
abbrev S1x128 : Shape := ⟨2, ![1, 128]⟩
abbrev S128 : Shape := ⟨1, ![128]⟩
abbrev S32x128 : Shape := ⟨2, ![32, 128]⟩
abbrev S5x128 : Shape := ⟨2, ![5, 128]⟩
abbrev S81920x776 : Shape := ⟨2, ![81920, 776]⟩
abbrev S1x81920 : Shape := ⟨2, ![1, 81920]⟩
abbrev S81920 : Shape := ⟨1, ![81920]⟩

abbrev nBuf : Space → Nat
  | .hbm => 12
  | .vmem => 14
  | .smem => 0
  | _ => 0

abbrev bufTy : (tb : Table) → Fin (tcTables nBuf tb) → BufTy
  | .hbm, ⟨0, _⟩ => ⟨S200x81920, .i32⟩
  | .hbm, ⟨1, _⟩ => ⟨S32x15368x128, .f32⟩
  | .hbm, ⟨2, _⟩ => ⟨S81920x768, .i32⟩
  | .hbm, ⟨3, _⟩ => ⟨S776x81920, .i8⟩
  | .hbm, ⟨4, _⟩ => ⟨S8x81920, .f32⟩
  | .hbm, ⟨5, _⟩ => ⟨S81920x776, .i8⟩
  | .hbm, ⟨6, _⟩ => ⟨S1x81920, .f32⟩
  | .hbm, ⟨7, _⟩ => ⟨S81920, .f32⟩
  | .hbm, ⟨8, _⟩ => ⟨S1x81920, .f32⟩
  | .hbm, ⟨9, _⟩ => ⟨S81920, .f32⟩
  | .hbm, ⟨10, _⟩ => ⟨S1x81920, .f32⟩
  | .hbm, ⟨11, _⟩ => ⟨S81920, .f32⟩
  | .local _ .vmem, ⟨0, _⟩ => ⟨S192x1280, .i32⟩
  | .local _ .vmem, ⟨1, _⟩ => ⟨S192x1280, .i32⟩
  | .local _ .vmem, ⟨2, _⟩ => ⟨S8x1280, .i32⟩
  | .local _ .vmem, ⟨3, _⟩ => ⟨S8x1280, .i32⟩
  | .local _ .vmem, ⟨4, _⟩ => ⟨S1x7680x128, .f32⟩
  | .local _ .vmem, ⟨5, _⟩ => ⟨S1x7680x128, .f32⟩
  | .local _ .vmem, ⟨6, _⟩ => ⟨S1280x768, .i32⟩
  | .local _ .vmem, ⟨7, _⟩ => ⟨S1280x768, .i32⟩
  | .local _ .vmem, ⟨8, _⟩ => ⟨S776x1280, .i8⟩
  | .local _ .vmem, ⟨9, _⟩ => ⟨S776x1280, .i8⟩
  | .local _ .vmem, ⟨10, _⟩ => ⟨S8x1280, .f32⟩
  | .local _ .vmem, ⟨11, _⟩ => ⟨S8x1280, .f32⟩
  | .local _ .vmem, ⟨12, _⟩ => ⟨S768x128, .f32⟩
  | .local _ .vmem, ⟨13, _⟩ => ⟨S768x128, .f32⟩
  | _, _ => ⟨S200x81920, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c10_i32 : BitVec 32 := 10#32
  let v0 : BitVec 32 := Scalar.addi c0_i32 c10_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  v1
def k0_off1 (k0_t1 : Fin k0_t1_loop.trips) (c0_i32_1 : BitVec 32) : Fin 3 → Nat :=
  let c0 : Index := 0#32
  let c0_i32 : BitVec 32 := 0#32
  let c1_i32 : BitVec 32 := 1#32
  let arg9 : BitVec 32 := Scf.iv c0_i32 c1_i32 k0_t1
  let c768_i32 : BitVec 32 := 768#32
  let v4 : BitVec 32 := Scalar.muli arg9 c768_i32
  let v5 : BitVec 32 := Scalar.addi v4 c0_i32_1
  let v6 : Index := Scalar.indexCast v5
  let c0_2 : Index := 0#32
  ![0, v6.toNat, 0]
def k0_off2 (k0_t1 : Fin k0_t1_loop.trips) : Fin 2 → Nat :=
  let c0_32 : Index := 0#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v82 : Index := Scalar.indexCast v2
  ![0, v82.toNat]
def k0_off3 (k0_t1 : Fin k0_t1_loop.trips) : Fin 2 → Nat :=
  let c0_39 : Index := 0#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v100 : Index := Scalar.indexCast v2
  ![0, v100.toNat]
def k0_off4 (k0_t1 : Fin k0_t1_loop.trips) : Fin 2 → Nat :=
  let c8 : Index := 8#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v132 : Index := Scalar.indexCast v2
  ![8, v132.toNat]
def k0_off5 (k0_t1 : Fin k0_t1_loop.trips) : Fin 2 → Nat :=
  let c16 : Index := 16#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v164 : Index := Scalar.indexCast v2
  ![16, v164.toNat]
def k0_off6 (k0_t1 : Fin k0_t1_loop.trips) : Fin 2 → Nat :=
  let c24 : Index := 24#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v196 : Index := Scalar.indexCast v2
  ![24, v196.toNat]
def k0_off7 (k0_t1 : Fin k0_t1_loop.trips) : Fin 2 → Nat :=
  let c32_53 : Index := 32#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v228 : Index := Scalar.indexCast v2
  ![32, v228.toNat]
def k0_off8 (k0_t1 : Fin k0_t1_loop.trips) : Fin 2 → Nat :=
  let c40 : Index := 40#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v260 : Index := Scalar.indexCast v2
  ![40, v260.toNat]
def k0_off9 (k0_t1 : Fin k0_t1_loop.trips) : Fin 2 → Nat :=
  let c48 : Index := 48#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v292 : Index := Scalar.indexCast v2
  ![48, v292.toNat]
def k0_off10 (k0_t1 : Fin k0_t1_loop.trips) : Fin 2 → Nat :=
  let c56 : Index := 56#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v324 : Index := Scalar.indexCast v2
  ![56, v324.toNat]
def k0_off11 (k0_t1 : Fin k0_t1_loop.trips) : Fin 2 → Nat :=
  let c64_67 : Index := 64#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v356 : Index := Scalar.indexCast v2
  ![64, v356.toNat]
def k0_off12 (k0_t1 : Fin k0_t1_loop.trips) : Fin 2 → Nat :=
  let c72 : Index := 72#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v388 : Index := Scalar.indexCast v2
  ![72, v388.toNat]
def k0_off13 (k0_t1 : Fin k0_t1_loop.trips) : Fin 2 → Nat :=
  let c80 : Index := 80#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v420 : Index := Scalar.indexCast v2
  ![80, v420.toNat]
def k0_off14 (k0_t1 : Fin k0_t1_loop.trips) : Fin 2 → Nat :=
  let c88 : Index := 88#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v452 : Index := Scalar.indexCast v2
  ![88, v452.toNat]
def k0_off15 (k0_t1 : Fin k0_t1_loop.trips) : Fin 2 → Nat :=
  let c96_81 : Index := 96#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v484 : Index := Scalar.indexCast v2
  ![96, v484.toNat]
def k0_off16 (k0_t1 : Fin k0_t1_loop.trips) : Fin 2 → Nat :=
  let c104 : Index := 104#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v516 : Index := Scalar.indexCast v2
  ![104, v516.toNat]
def k0_off17 (k0_t1 : Fin k0_t1_loop.trips) : Fin 2 → Nat :=
  let c112 : Index := 112#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v548 : Index := Scalar.indexCast v2
  ![112, v548.toNat]
def k0_off18 (k0_t1 : Fin k0_t1_loop.trips) : Fin 2 → Nat :=
  let c120 : Index := 120#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v580 : Index := Scalar.indexCast v2
  ![120, v580.toNat]
def k0_off19 (k0_t1 : Fin k0_t1_loop.trips) : Fin 2 → Nat :=
  let c128_95 : Index := 128#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v612 : Index := Scalar.indexCast v2
  ![128, v612.toNat]
def k0_off20 (k0_t1 : Fin k0_t1_loop.trips) : Fin 2 → Nat :=
  let c136 : Index := 136#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v644 : Index := Scalar.indexCast v2
  ![136, v644.toNat]
def k0_off21 (k0_t1 : Fin k0_t1_loop.trips) : Fin 2 → Nat :=
  let c144 : Index := 144#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v676 : Index := Scalar.indexCast v2
  ![144, v676.toNat]
def k0_off22 (k0_t1 : Fin k0_t1_loop.trips) : Fin 2 → Nat :=
  let c152 : Index := 152#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v708 : Index := Scalar.indexCast v2
  ![152, v708.toNat]
def k0_off23 (k0_t1 : Fin k0_t1_loop.trips) : Fin 2 → Nat :=
  let c160_109 : Index := 160#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v740 : Index := Scalar.indexCast v2
  ![160, v740.toNat]
def k0_off24 (k0_t1 : Fin k0_t1_loop.trips) : Fin 2 → Nat :=
  let c168 : Index := 168#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v772 : Index := Scalar.indexCast v2
  ![168, v772.toNat]
def k0_off25 (k0_t1 : Fin k0_t1_loop.trips) : Fin 2 → Nat :=
  let c176 : Index := 176#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v804 : Index := Scalar.indexCast v2
  ![176, v804.toNat]
def k0_off26 (k0_t1 : Fin k0_t1_loop.trips) : Fin 2 → Nat :=
  let c184 : Index := 184#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v836 : Index := Scalar.indexCast v2
  ![184, v836.toNat]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_128 : BitVec 32 := 128#32
  let v879 : BitVec 32 := Scalar.muli arg9 c128_i32_128
  v879
def k0_off27 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32_128 : BitVec 32 := 128#32
  let v879 : BitVec 32 := Scalar.muli arg9 c128_i32_128
  let v880 : BitVec 32 := v879
  let v881 : Index := Scalar.indexCast v880
  let c0_129 : Index := 0#32
  ![v881.toNat, 0]
def k0_off28 (k0_t1 : Fin k0_t1_loop.trips) : Fin 2 → Nat :=
  let c0_135 : Index := 0#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v902 : Index := Scalar.indexCast v2
  ![0, v902.toNat]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_136 : BitVec 32 := 128#32
  let v904 : BitVec 32 := Scalar.muli arg9 c128_i32_136
  v904
def k0_off29 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32_136 : BitVec 32 := 128#32
  let v904 : BitVec 32 := Scalar.muli arg9 c128_i32_136
  let v905 : BitVec 32 := v904
  let v906 : Index := Scalar.indexCast v905
  let c128_137 : Index := 128#32
  ![v906.toNat, 128]
def k0_off30 (k0_t1 : Fin k0_t1_loop.trips) : Fin 2 → Nat :=
  let c128_144 : Index := 128#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v927 : Index := Scalar.indexCast v2
  ![128, v927.toNat]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_145 : BitVec 32 := 128#32
  let v929 : BitVec 32 := Scalar.muli arg9 c128_i32_145
  v929
def k0_off31 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32_145 : BitVec 32 := 128#32
  let v929 : BitVec 32 := Scalar.muli arg9 c128_i32_145
  let v930 : BitVec 32 := v929
  let v931 : Index := Scalar.indexCast v930
  let c256_146 : Index := 256#32
  ![v931.toNat, 256]
def k0_off32 (k0_t1 : Fin k0_t1_loop.trips) : Fin 2 → Nat :=
  let c256_153 : Index := 256#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v952 : Index := Scalar.indexCast v2
  ![256, v952.toNat]
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_154 : BitVec 32 := 128#32
  let v954 : BitVec 32 := Scalar.muli arg9 c128_i32_154
  v954
def k0_off33 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32_154 : BitVec 32 := 128#32
  let v954 : BitVec 32 := Scalar.muli arg9 c128_i32_154
  let v955 : BitVec 32 := v954
  let v956 : Index := Scalar.indexCast v955
  let c384_155 : Index := 384#32
  ![v956.toNat, 384]
def k0_off34 (k0_t1 : Fin k0_t1_loop.trips) : Fin 2 → Nat :=
  let c384_162 : Index := 384#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v977 : Index := Scalar.indexCast v2
  ![384, v977.toNat]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_163 : BitVec 32 := 128#32
  let v979 : BitVec 32 := Scalar.muli arg9 c128_i32_163
  v979
def k0_off35 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32_163 : BitVec 32 := 128#32
  let v979 : BitVec 32 := Scalar.muli arg9 c128_i32_163
  let v980 : BitVec 32 := v979
  let v981 : Index := Scalar.indexCast v980
  let c512_164 : Index := 512#32
  ![v981.toNat, 512]
def k0_off36 (k0_t1 : Fin k0_t1_loop.trips) : Fin 2 → Nat :=
  let c512_171 : Index := 512#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v1002 : Index := Scalar.indexCast v2
  ![512, v1002.toNat]
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_172 : BitVec 32 := 128#32
  let v1004 : BitVec 32 := Scalar.muli arg9 c128_i32_172
  v1004
def k0_off37 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32_172 : BitVec 32 := 128#32
  let v1004 : BitVec 32 := Scalar.muli arg9 c128_i32_172
  let v1005 : BitVec 32 := v1004
  let v1006 : Index := Scalar.indexCast v1005
  let c640_173 : Index := 640#32
  ![v1006.toNat, 640]
def k0_off38 (k0_t1 : Fin k0_t1_loop.trips) : Fin 2 → Nat :=
  let c640_180 : Index := 640#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v1027 : Index := Scalar.indexCast v2
  ![640, v1027.toNat]
def k0_off39 (k0_t1 : Fin k0_t1_loop.trips) : Fin 2 → Nat :=
  let c768 : Index := 768#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v1047 : Index := Scalar.indexCast v2
  ![768, v1047.toNat]
def k0_off40 (k0_t1 : Fin k0_t1_loop.trips) : Fin 2 → Nat :=
  let c0_186 : Index := 0#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v1049 : Index := Scalar.indexCast v2
  ![0, v1049.toNat]
def k0_off41 (k0_t1 : Fin k0_t1_loop.trips) : Fin 2 → Nat :=
  let c1 : Index := 1#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v1051 : Index := Scalar.indexCast v2
  ![1, v1051.toNat]
def k0_off42 (k0_t1 : Fin k0_t1_loop.trips) : Fin 2 → Nat :=
  let c2 : Index := 2#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v1053 : Index := Scalar.indexCast v2
  ![2, v1053.toNat]
def k0_off43 (k0_t1 : Fin k0_t1_loop.trips) : Fin 2 → Nat :=
  let c3 : Index := 3#32
  let c0_i32 : BitVec 32 := 0#32
  let c1_i32 : BitVec 32 := 1#32
  let arg9 : BitVec 32 := Scf.iv c0_i32 c1_i32 k0_t1
  let c128_i32 : BitVec 32 := 128#32
  let v1 : BitVec 32 := Scalar.muli arg9 c128_i32
  let v2 : BitVec 32 := v1
  let v1056 : Index := Scalar.indexCast v2
  ![3, v1056.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c24_i32 : BitVec 32 := 24#32
  let c0_i32 : BitVec 32 := 0#32
  ![c24_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S192x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x7680x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x768 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S776x1280 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S200x81920 : Shape := ⟨2, ![200, 81920]⟩
abbrev S32x15368x128 : Shape := ⟨3, ![32, 15368, 128]⟩
abbrev S81920x768 : Shape := ⟨2, ![81920, 768]⟩
abbrev S4 : Shape := ⟨1, ![4]⟩
abbrev S_ : Shape := ⟨0, ![]⟩
abbrev S192x81920 : Shape := ⟨2, ![192, 81920]⟩
abbrev S192x1x81920 : Shape := ⟨3, ![192, 1, 81920]⟩
abbrev S1x4x1 : Shape := ⟨3, ![1, 4, 1]⟩
abbrev S192x4x81920 : Shape := ⟨3, ![192, 4, 81920]⟩
abbrev S768x81920 : Shape := ⟨2, ![768, 81920]⟩
abbrev S3x81920 : Shape := ⟨2, ![3, 81920]⟩
abbrev S1x81920 : Shape := ⟨2, ![1, 81920]⟩
abbrev S81920 : Shape := ⟨1, ![81920]⟩
abbrev S32x15360x128 : Shape := ⟨3, ![32, 15360, 128]⟩
abbrev S8x81920 : Shape := ⟨2, ![8, 81920]⟩
abbrev S776x81920 : Shape := ⟨2, ![776, 81920]⟩
abbrev S81920x776 : Shape := ⟨2, ![81920, 776]⟩

abbrev nBuf : Space → Nat
  | .hbm => 97
  | .vmem => 0
  | .smem => 0
  | _ => 0

abbrev bufTy : (tb : Table) → Fin (tcTables nBuf tb) → BufTy
  | .hbm, ⟨0, _⟩ => ⟨S200x81920, .i32⟩
  | .hbm, ⟨1, _⟩ => ⟨S32x15368x128, .f32⟩
  | .hbm, ⟨2, _⟩ => ⟨S81920x768, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S192x81920, .i32⟩
  | .hbm, ⟨8, _⟩ => ⟨S192x1x81920, .i32⟩
  | .hbm, ⟨9, _⟩ => ⟨S1x4x1, .i32⟩
  | .hbm, ⟨10, _⟩ => ⟨S192x4x81920, .i32⟩
  | .hbm, ⟨11, _⟩ => ⟨S192x4x81920, .i32⟩
  | .hbm, ⟨12, _⟩ => ⟨S192x4x81920, .i32⟩
  | .hbm, ⟨13, _⟩ => ⟨S_, .i32⟩
  | .hbm, ⟨14, _⟩ => ⟨S192x4x81920, .i32⟩
  | .hbm, ⟨15, _⟩ => ⟨S192x4x81920, .i32⟩
  | .hbm, ⟨16, _⟩ => ⟨S768x81920, .i32⟩
  | .hbm, ⟨17, _⟩ => ⟨S768x81920, .f32⟩
  | .hbm, ⟨18, _⟩ => ⟨S3x81920, .i32⟩
  | .hbm, ⟨19, _⟩ => ⟨S3x81920, .f32⟩
  | .hbm, ⟨20, _⟩ => ⟨S1x81920, .f32⟩
  | .hbm, ⟨21, _⟩ => ⟨S81920, .f32⟩
  | .hbm, ⟨22, _⟩ => ⟨S1x81920, .f32⟩
  | .hbm, ⟨23, _⟩ => ⟨S81920, .f32⟩
  | .hbm, ⟨24, _⟩ => ⟨S1x81920, .f32⟩
  | .hbm, ⟨25, _⟩ => ⟨S81920, .f32⟩
  | .hbm, ⟨26, _⟩ => ⟨S32x15360x128, .f32⟩
  | .hbm, ⟨27, _⟩ => ⟨S81920x768, .f32⟩
  | .hbm, ⟨28, _⟩ => ⟨S768x81920, .f32⟩
  | .hbm, ⟨29, _⟩ => ⟨S768x81920, .f32⟩
  | .hbm, ⟨30, _⟩ => ⟨S_, .f32⟩
  | .hbm, ⟨31, _⟩ => ⟨S81920, .f32⟩
  | .hbm, ⟨32, _⟩ => ⟨S_, .f32⟩
  | .hbm, ⟨33, _⟩ => ⟨S81920, .f32⟩
  | .hbm, ⟨34, _⟩ => ⟨S81920, .f32⟩
  | .hbm, ⟨35, _⟩ => ⟨S81920, .f32⟩
  | .hbm, ⟨36, _⟩ => ⟨S81920, .f32⟩
  | .hbm, ⟨37, _⟩ => ⟨S_, .f32⟩
  | .hbm, ⟨38, _⟩ => ⟨S81920, .f32⟩
  | .hbm, ⟨39, _⟩ => ⟨S81920, .f32⟩
  | .hbm, ⟨40, _⟩ => ⟨S_, .f32⟩
  | .hbm, ⟨41, _⟩ => ⟨S81920, .f32⟩
  | .hbm, ⟨42, _⟩ => ⟨S81920, .f32⟩
  | .hbm, ⟨43, _⟩ => ⟨S1x81920, .f32⟩
  | .hbm, ⟨44, _⟩ => ⟨S768x81920, .f32⟩
  | .hbm, ⟨45, _⟩ => ⟨S768x81920, .f32⟩
  | .hbm, ⟨46, _⟩ => ⟨S1x81920, .f32⟩
  | .hbm, ⟨47, _⟩ => ⟨S768x81920, .f32⟩
  | .hbm, ⟨48, _⟩ => ⟨S768x81920, .f32⟩
  | .hbm, ⟨49, _⟩ => ⟨S1x81920, .f32⟩
  | .hbm, ⟨50, _⟩ => ⟨S768x81920, .f32⟩
  | .hbm, ⟨51, _⟩ => ⟨S768x81920, .f32⟩
  | .hbm, ⟨52, _⟩ => ⟨S768x81920, .f32⟩
  | .hbm, ⟨53, _⟩ => ⟨S_, .f32⟩
  | .hbm, ⟨54, _⟩ => ⟨S81920, .f32⟩
  | .hbm, ⟨55, _⟩ => ⟨S_, .f32⟩
  | .hbm, ⟨56, _⟩ => ⟨S81920, .f32⟩
  | .hbm, ⟨57, _⟩ => ⟨S81920, .f32⟩
  | .hbm, ⟨58, _⟩ => ⟨S_, .f32⟩
  | .hbm, ⟨59, _⟩ => ⟨S81920, .f32⟩
  | .hbm, ⟨60, _⟩ => ⟨S81920, .f32⟩
  | .hbm, ⟨61, _⟩ => ⟨S_, .f32⟩
  | .hbm, ⟨62, _⟩ => ⟨S81920, .f32⟩
  | .hbm, ⟨63, _⟩ => ⟨S81920, .f32⟩
  | .hbm, ⟨64, _⟩ => ⟨S_, .f32⟩
  | .hbm, ⟨65, _⟩ => ⟨S81920, .f32⟩
  | .hbm, ⟨66, _⟩ => ⟨S81920, .f32⟩
  | .hbm, ⟨67, _⟩ => ⟨S1x81920, .f32⟩
  | .hbm, ⟨68, _⟩ => ⟨S768x81920, .f32⟩
  | .hbm, ⟨69, _⟩ => ⟨S768x81920, .f32⟩
  | .hbm, ⟨70, _⟩ => ⟨S1x81920, .f32⟩
  | .hbm, ⟨71, _⟩ => ⟨S768x81920, .f32⟩
  | .hbm, ⟨72, _⟩ => ⟨S768x81920, .f32⟩
  | .hbm, ⟨73, _⟩ => ⟨S768x81920, .i32⟩
  | .hbm, ⟨74, _⟩ => ⟨S_, .i32⟩
  | .hbm, ⟨75, _⟩ => ⟨S768x81920, .i32⟩
  | .hbm, ⟨76, _⟩ => ⟨S768x81920, .i32⟩
  | .hbm, ⟨77, _⟩ => ⟨S768x81920, .f32⟩
  | .hbm, ⟨78, _⟩ => ⟨S_, .f32⟩
  | .hbm, ⟨79, _⟩ => ⟨S768x81920, .f32⟩
  | .hbm, ⟨80, _⟩ => ⟨S768x81920, .f32⟩
  | .hbm, ⟨81, _⟩ => ⟨S768x81920, .f32⟩
  | .hbm, ⟨82, _⟩ => ⟨S768x81920, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S768x81920, .f32⟩
  | .hbm, ⟨87, _⟩ => ⟨S768x81920, .f32⟩
  | .hbm, ⟨88, _⟩ => ⟨S_, .f32⟩
  | .hbm, ⟨89, _⟩ => ⟨S768x81920, .f32⟩
  | .hbm, ⟨90, _⟩ => ⟨S768x81920, .f32⟩
  | .hbm, ⟨91, _⟩ => ⟨S768x81920, .i32⟩
  | .hbm, ⟨92, _⟩ => ⟨S768x81920, .i8⟩
  | .hbm, ⟨93, _⟩ => ⟨S_, .i8⟩
  | .hbm, ⟨94, _⟩ => ⟨S8x81920, .i8⟩
  | .hbm, ⟨95, _⟩ => ⟨S776x81920, .i8⟩
  | .hbm, ⟨96, _⟩ => ⟨S81920x776, .i8⟩
  | _, _ => ⟨S200x81920, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_cst_12 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Proof.KFrame.lean ====
/-
  The frame of the update kernel as printed: the body run once at a generic grid point with what it leaves in the two
  result buffers forgotten, and the launch of the pipeline over it. The two word windows stage one array, each at its
  share of it.
-/
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class invariant, conjunct by conjunct: both scratch buffers owned at some contents, the generator register at
    some state. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- The body's triple at any point: the four operands' staging memrefs are handed back as found, the two results' and
    the two scratch buffers at some contents. -/
theorem kernelRun (c : Dev nD) (i : grid0.Coords)
    (arg1 : Memref sig .tc .vmem S192x1280 .i32) (harg1 : arg1.IsWhole) (arg2 : Memref sig .tc .vmem S8x1280 .i32) (harg2 : arg2.IsWhole)
    (arg3 : Memref sig .tc .vmem S1x7680x128 .f32) (harg3 : arg3.IsWhole) (arg4 : Memref sig .tc .vmem S1280x768 .i32) (harg4 : arg4.IsWhole)
    (arg5 : Memref sig .tc .vmem S776x1280 .i8) (harg5 : arg5.IsWhole) (arg6 : Memref sig .tc .vmem S8x1280 .f32) (harg6 : arg6.IsWhole)
    (arg7 : Memref sig .tc .vmem S768x128 .f32) (harg7 : arg7.IsWhole) (arg8 : Memref sig .tc .vmem S768x128 .f32) (harg8 : arg8.IsWhole)
    (X1 : S192x1280.Idx → Elt F .i32) (X2 : S8x1280.Idx → Elt F .i32) (X3 : S1x7680x128.Idx → Elt F .f32) (X4 : S1280x768.Idx → Elt F .i32)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare X1 ∗ owns (c : Thread nD τ) arg2 fullShare X2
            ∗ owns (c : Thread nD τ) arg3 fullShare X3 ∗ owns (c : Thread nD τ) arg4 fullShare X4
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) Variants.none c none) Set.univ
          (cc0_update i arg1 harg1 arg2 harg2 arg3 harg3 arg4 harg4 arg5 harg5 arg6 harg6 arg7 harg7 arg8 harg8) K := by
  simp only [cc0_update_eq_skeleton]; unfold cc0_update_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩,
    ⟨%d7, %f7, -, H7⟩, ⟨%d8, %f8, -, H8⟩, Hk⟩
  sl_exec
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _, _; isplitr; swap; (· iexact H5); ipureintro; rfl
  isplitl [H6]; · iexists _, _; isplitr; swap; (· iexact H6); ipureintro; rfl
  isplitl [H7]; · iexists _, _; isplitr; swap; (· iexact H7); ipureintro; rfl
  iexists _, _; isplitr; swap; (· iexact H8); ipureintro; rfl

/-! ## The proof data and the body obligation -/

/-- The two results, FORGOTTEN: the frame reads neither. -/
def forgets0 : Fin 6 → Bool := fun w => decide (4 ≤ w.val)

/-- The proof data on core `c`: arrays as the region finds them; each operand's buffer at its block after the body, the
    results' unnamed; the class invariant; nothing owed; each operand's share of its array. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => Pipeline.Dat.unnamed (cfg := cfg0) 4 t
    | ⟨5, _⟩ => Pipeline.Dat.unnamed (cfg := cfg0) 5 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The body at any point, by `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3]
  iintro ⟨⟨⟨H6, H7⟩, Hg⟩, Ho, ⟨%d0, H0⟩, ⟨%d1, H1⟩, ⟨%d2, H2⟩, ⟨%d3, H3⟩, H4, H5⟩
  iapply (kernelRun c (grid0.coords t) _ _ _ _ _ _ _ _ _ _ _ _ _ _ _ _ (X0_0 m c t) (iblk m c 1 t) (X0_2 m c t) (iblk m c 3 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [H6 H7 Hg]
  · isplitl [H6 H7]
    · isplitl [H6]; · iexact H6
      iexact H7
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with both results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the launch theorem's implicit arguments are found by unifying its conclusion with this statement, which unfolds plain
-- definitions in a metavariable's type
set_option backward.isDefEq.respectTransparency.types false in
set_option maxHeartbeats 4000000 in
/-- From any memory with zero counters every weakly fair execution terminates, every operand array is as launched and
    every semaphore counter is zero. -/
theorem run_main :
    θ_run defs (onTc (τ := τ) (main (F := F))) (s₀ m ρ)
      (fun r => Pipeline.RDat.FramePostR (cfgs 0) (fun c => (dats m 0 c).toRForget forgets0) Finset.univ (V m) r ∧ r.2.sem = fun _ => 0) :=
  Pipeline.θ_run_frame_around_T_forget_shared (Q' := _) cfgs (dats m) (0 : Fin 1) launch₀0 defs₀ Variants.none forgets0 Finset.univ m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hT := fun _ _ _ _ _ _ => Finset.mem_univ _) (hmain := hmain m Variants.none) (hA := A_eq m) (hΦ := fun _ _ => rfl)

/-- THE FRAME: every execution terminates, the three arguments end as launched, every semaphore counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono (fun r h => ⟨fun c => ⟨?_, ?_, ?_⟩, h.2⟩) (run_main m ρ)
  · exact (Pipeline.RDat.FramePostR.arr_in h.1 c 1 rfl)
  · exact (Pipeline.RDat.FramePostR.arr_in h.1 c 2 rfl)
  · exact (Pipeline.RDat.FramePostR.arr_in h.1 c 3 rfl)

end Cert.Kernel.Hand

end
-- ==== Proof.Pieces.lean ====
module

public import proofs.«01_k».proof.Proof.Gen.KernelIdeal.Loops

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-! ### The arithmetic of one trip on whole vectors -/

/-- 32 rows of updated weights: code * scale + bias - mult * gradient. -/
def wnV (sc bi mu : FVec F S1x128 .f32) (w : Vec F S8x128 .i32) (g : Vec F S32x128 .f32) : FVec F S32x128 .f32 :=
  k0_pay113 sc bi mu w g

/-- The running minimum over eight sublanes after `j` blocks of 32 rows. -/
def mnC (wn : ℕ → FVec F S32x128 .f32) : ℕ → FVec F S8x128 .f32
  | 0 => k0_pay22
  | j + 1 => minimumf (minimumf (minimumf (minimumf (mnC wn j)
      (extractStridedSlice S8x128 ![0, 0] (wn j) slices_S32x128_o0_0_S8x128))
      (extractStridedSlice S8x128 ![8, 0] (wn j) slices_S32x128_o8_0_S8x128))
      (extractStridedSlice S8x128 ![16, 0] (wn j) slices_S32x128_o16_0_S8x128))
      (extractStridedSlice S8x128 ![24, 0] (wn j) slices_S32x128_o24_0_S8x128)

/-- The running maximum over eight sublanes after `j` blocks of 32 rows. -/
def mxC (wn : ℕ → FVec F S32x128 .f32) : ℕ → FVec F S8x128 .f32
  | 0 => k0_pay23
  | j + 1 => maximumf (maximumf (maximumf (maximumf (mxC wn j)
      (extractStridedSlice S8x128 ![0, 0] (wn j) slices_S32x128_o0_0_S8x128))
      (extractStridedSlice S8x128 ![8, 0] (wn j) slices_S32x128_o8_0_S8x128))
      (extractStridedSlice S8x128 ![16, 0] (wn j) slices_S32x128_o16_0_S8x128))
      (extractStridedSlice S8x128 ![24, 0] (wn j) slices_S32x128_o24_0_S8x128)

/-- The column minimum. -/
def loV (wn : ℕ → FVec F S32x128 .f32) : FVec F S1x128 .f32 :=
  shapeCast S1x128 (multiReduction .minimumf [0] S128 (mnC wn 24) 0x7F800000#32 reduces_S8x128_S128 (.inl rfl) rfl) shapeCasts_S128_S1x128

/-- The column maximum minus the column minimum. -/
def rngV (wn : ℕ → FVec F S32x128 .f32) : FVec F S1x128 .f32 :=
  subf (shapeCast S1x128 (multiReduction .maximumf [0] S128 (mxC wn 24) 0xFF800000#32 reduces_S8x128_S128 (.inl rfl) rfl) shapeCasts_S128_S1x128) (loV wn)

/-- A strided block of gradients transposed: rows are features, lanes are slots. -/
def gtV (g : Vec F S1x128x128 .f32) : FVec F S128x128 .f32 := k0_pay2 g

/-- Eight partial sums of squares of one transposed block. -/
def sqV (g : Vec F S1x128x128 .f32) : FVec F S8x128 .f32 :=
  multiReduction .add [0] S8x128 (shapeCast S16x8x128 (mulf (gtV g) (gtV g)) shapeCasts_S128x128_S16x8x128) 0x00000000#32 reduces_S16x8x128_S8x128 (.inl rfl) rfl

/-- The accumulated partial sums of squares after `n` blocks. -/
def accC (g : ℕ → Vec F S1x128x128 .f32) : ℕ → FVec F S8x128 .f32
  | 0 => broadcast S8x128 (Scalar.ofBits .f32 0x00000000#32)
  | n + 1 => addf (accC g n) (sqV (g n))

/-- The new optimizer state: momentum plus the mean of squares. -/
def stV (g : ℕ → Vec F S1x128x128 .f32) (q : Vec F S8x128 .i32) : FVec F S1x128 .f32 :=
  addf (extractStridedSlice S1x128 ![2, 0] (k0_pay17 q) slices_S8x128_o2_0_S1x128)
    (divf (shapeCast S1x128 (multiReduction .add [0] S128 (accC g 6) 0x00000000#32 reduces_S8x128_S128 (.inl rfl) rfl) shapeCasts_S128_S1x128)
      (broadcast S1x128 (Scalar.ofBits .f32 0x44400000#32)))

/-- The step size. -/
def muV (st : FVec F S1x128 .f32) : FVec F S1x128 .f32 :=
  divf (broadcast S1x128 (Scalar.ofBits .f32 0x3CA3D70A#32)) (addf (sqrt st) (broadcast S1x128 (Scalar.ofBits .f32 0x322BCC77#32)))

/-- 128 rows of requantised codes. -/
def codeV (lo rng : FVec F S1x128 .f32) (r : Vec F S128x128 .i32) (v : Vec F S128x128 .f32) : IVec S128x128 8 :=
  k0_pay119 lo rng (FloatOps.ofBits FTy.f32 841731191#32) r v

section Trip
variable (arg1 : Memref sig .tc .vmem S192x1280 .i32) (arg2 : Memref sig .tc .vmem S8x1280 .i32)
  (arg3 : Memref sig .tc .vmem S1x7680x128 .f32) (arg4 : Memref sig .tc .vmem S1280x768 .i32)
  (arg5 : Memref sig .tc .vmem S776x1280 .i8) (arg6 : Memref sig .tc .vmem S8x1280 .f32)
  (arg7 : Memref sig .tc .vmem S768x128 .f32) (arg8 : Memref sig .tc .vmem S768x128 .f32)
  (X1 : BufTy.Contents (Elt F) arg1.view.ty) (X2 : BufTy.Contents (Elt F) arg2.view.ty)
  (X3 : BufTy.Contents (Elt F) arg3.view.ty) (X4 : BufTy.Contents (Elt F) arg4.view.ty)
  (k : Fin k0_t1_loop.trips)

/-- The eight qparam words of the trip's lanes. -/
def qld : Vec F S8x128 .i32 := arg2.view.readAt (Elt F) (Rect.unit (s := S8x1280) (k0_off2 k) S8x128.size (k0_off2_inb k)).toLoadRect X2

/-- The word rows `8 j .. 8 j + 7` of the trip's lanes. -/
def wld : ℕ → Vec F S8x128 .i32
  | 0 => arg1.view.readAt (Elt F) (Rect.unit (s := S192x1280) (k0_off3 k) S8x128.size (k0_off3_inb k)).toLoadRect X1
  | 1 => arg1.view.readAt (Elt F) (Rect.unit (s := S192x1280) (k0_off4 k) S8x128.size (k0_off4_inb k)).toLoadRect X1
  | 2 => arg1.view.readAt (Elt F) (Rect.unit (s := S192x1280) (k0_off5 k) S8x128.size (k0_off5_inb k)).toLoadRect X1
  | 3 => arg1.view.readAt (Elt F) (Rect.unit (s := S192x1280) (k0_off6 k) S8x128.size (k0_off6_inb k)).toLoadRect X1
  | 4 => arg1.view.readAt (Elt F) (Rect.unit (s := S192x1280) (k0_off7 k) S8x128.size (k0_off7_inb k)).toLoadRect X1
  | 5 => arg1.view.readAt (Elt F) (Rect.unit (s := S192x1280) (k0_off8 k) S8x128.size (k0_off8_inb k)).toLoadRect X1
  | 6 => arg1.view.readAt (Elt F) (Rect.unit (s := S192x1280) (k0_off9 k) S8x128.size (k0_off9_inb k)).toLoadRect X1
  | 7 => arg1.view.readAt (Elt F) (Rect.unit (s := S192x1280) (k0_off10 k) S8x128.size (k0_off10_inb k)).toLoadRect X1
  | 8 => arg1.view.readAt (Elt F) (Rect.unit (s := S192x1280) (k0_off11 k) S8x128.size (k0_off11_inb k)).toLoadRect X1
  | 9 => arg1.view.readAt (Elt F) (Rect.unit (s := S192x1280) (k0_off12 k) S8x128.size (k0_off12_inb k)).toLoadRect X1
  | 10 => arg1.view.readAt (Elt F) (Rect.unit (s := S192x1280) (k0_off13 k) S8x128.size (k0_off13_inb k)).toLoadRect X1
  | 11 => arg1.view.readAt (Elt F) (Rect.unit (s := S192x1280) (k0_off14 k) S8x128.size (k0_off14_inb k)).toLoadRect X1
  | 12 => arg1.view.readAt (Elt F) (Rect.unit (s := S192x1280) (k0_off15 k) S8x128.size (k0_off15_inb k)).toLoadRect X1
  | 13 => arg1.view.readAt (Elt F) (Rect.unit (s := S192x1280) (k0_off16 k) S8x128.size (k0_off16_inb k)).toLoadRect X1
  | 14 => arg1.view.readAt (Elt F) (Rect.unit (s := S192x1280) (k0_off17 k) S8x128.size (k0_off17_inb k)).toLoadRect X1
  | 15 => arg1.view.readAt (Elt F) (Rect.unit (s := S192x1280) (k0_off18 k) S8x128.size (k0_off18_inb k)).toLoadRect X1
  | 16 => arg1.view.readAt (Elt F) (Rect.unit (s := S192x1280) (k0_off19 k) S8x128.size (k0_off19_inb k)).toLoadRect X1
  | 17 => arg1.view.readAt (Elt F) (Rect.unit (s := S192x1280) (k0_off20 k) S8x128.size (k0_off20_inb k)).toLoadRect X1
  | 18 => arg1.view.readAt (Elt F) (Rect.unit (s := S192x1280) (k0_off21 k) S8x128.size (k0_off21_inb k)).toLoadRect X1
  | 19 => arg1.view.readAt (Elt F) (Rect.unit (s := S192x1280) (k0_off22 k) S8x128.size (k0_off22_inb k)).toLoadRect X1
  | 20 => arg1.view.readAt (Elt F) (Rect.unit (s := S192x1280) (k0_off23 k) S8x128.size (k0_off23_inb k)).toLoadRect X1
  | 21 => arg1.view.readAt (Elt F) (Rect.unit (s := S192x1280) (k0_off24 k) S8x128.size (k0_off24_inb k)).toLoadRect X1
  | 22 => arg1.view.readAt (Elt F) (Rect.unit (s := S192x1280) (k0_off25 k) S8x128.size (k0_off25_inb k)).toLoadRect X1
  | _ => arg1.view.readAt (Elt F) (Rect.unit (s := S192x1280) (k0_off26 k) S8x128.size (k0_off26_inb k)).toLoadRect X1

/-- The strided gradient block `c` of the trip's slots. -/
def gld : ℕ → Vec F S1x128x128 .f32
  | 0 => arg3.view.readAt (Elt F) ⟨k0_off1 k 0#32, S1x128x128.size, ![1, 6, 1], k0_off1_inb k ⟨0, by decide⟩⟩ X3
  | 1 => arg3.view.readAt (Elt F) ⟨k0_off1 k 1#32, S1x128x128.size, ![1, 6, 1], k0_off1_inb k ⟨1, by decide⟩⟩ X3
  | 2 => arg3.view.readAt (Elt F) ⟨k0_off1 k 2#32, S1x128x128.size, ![1, 6, 1], k0_off1_inb k ⟨2, by decide⟩⟩ X3
  | 3 => arg3.view.readAt (Elt F) ⟨k0_off1 k 3#32, S1x128x128.size, ![1, 6, 1], k0_off1_inb k ⟨3, by decide⟩⟩ X3
  | 4 => arg3.view.readAt (Elt F) ⟨k0_off1 k 4#32, S1x128x128.size, ![1, 6, 1], k0_off1_inb k ⟨4, by decide⟩⟩ X3
  | _ => arg3.view.readAt (Elt F) ⟨k0_off1 k 5#32, S1x128x128.size, ![1, 6, 1], k0_off1_inb k ⟨5, by decide⟩⟩ X3

/-- The random words of feature block `c` of the trip's slots. -/
def rld : ℕ → Vec F S128x128 .i32
  | 0 => arg4.view.readAt (Elt F) (Rect.unit (s := S1280x768) (k0_off27 k) S128x128.size (k0_off27_inb k)).toLoadRect X4
  | 1 => arg4.view.readAt (Elt F) (Rect.unit (s := S1280x768) (k0_off29 k) S128x128.size (k0_off29_inb k)).toLoadRect X4
  | 2 => arg4.view.readAt (Elt F) (Rect.unit (s := S1280x768) (k0_off31 k) S128x128.size (k0_off31_inb k)).toLoadRect X4
  | 3 => arg4.view.readAt (Elt F) (Rect.unit (s := S1280x768) (k0_off33 k) S128x128.size (k0_off33_inb k)).toLoadRect X4
  | 4 => arg4.view.readAt (Elt F) (Rect.unit (s := S1280x768) (k0_off35 k) S128x128.size (k0_off35_inb k)).toLoadRect X4
  | _ => arg4.view.readAt (Elt F) (Rect.unit (s := S1280x768) (k0_off37 k) S128x128.size (k0_off37_inb k)).toLoadRect X4

/-- The gradient rows `32 j .. 32 j + 31` read back from the scratch. -/
def gv : ℕ → Vec F S32x128 .f32
  | 0 => arg7.view.readCov (trip_k0_t1.sl.HW_arg7_6 (F := F) arg3 X3 k) (Rect.unit (s := S768x128) ![0, 0] S32x128.size inb_S768x128_S32x128_0_0).toLoadRect
  | 1 => arg7.view.readCov (trip_k0_t1.sl.HW_arg7_6 (F := F) arg3 X3 k) (Rect.unit (s := S768x128) ![32, 0] S32x128.size inb_S768x128_S32x128_32_0).toLoadRect
  | 2 => arg7.view.readCov (trip_k0_t1.sl.HW_arg7_6 (F := F) arg3 X3 k) (Rect.unit (s := S768x128) ![64, 0] S32x128.size inb_S768x128_S32x128_64_0).toLoadRect
  | 3 => arg7.view.readCov (trip_k0_t1.sl.HW_arg7_6 (F := F) arg3 X3 k) (Rect.unit (s := S768x128) ![96, 0] S32x128.size inb_S768x128_S32x128_96_0).toLoadRect
  | 4 => arg7.view.readCov (trip_k0_t1.sl.HW_arg7_6 (F := F) arg3 X3 k) (Rect.unit (s := S768x128) ![128, 0] S32x128.size inb_S768x128_S32x128_128_0).toLoadRect
  | 5 => arg7.view.readCov (trip_k0_t1.sl.HW_arg7_6 (F := F) arg3 X3 k) (Rect.unit (s := S768x128) ![160, 0] S32x128.size inb_S768x128_S32x128_160_0).toLoadRect
  | 6 => arg7.view.readCov (trip_k0_t1.sl.HW_arg7_6 (F := F) arg3 X3 k) (Rect.unit (s := S768x128) ![192, 0] S32x128.size inb_S768x128_S32x128_192_0).toLoadRect
  | 7 => arg7.view.readCov (trip_k0_t1.sl.HW_arg7_6 (F := F) arg3 X3 k) (Rect.unit (s := S768x128) ![224, 0] S32x128.size inb_S768x128_S32x128_224_0).toLoadRect
  | 8 => arg7.view.readCov (trip_k0_t1.sl.HW_arg7_6 (F := F) arg3 X3 k) (Rect.unit (s := S768x128) ![256, 0] S32x128.size inb_S768x128_S32x128_256_0).toLoadRect
  | 9 => arg7.view.readCov (trip_k0_t1.sl.HW_arg7_6 (F := F) arg3 X3 k) (Rect.unit (s := S768x128) ![288, 0] S32x128.size inb_S768x128_S32x128_288_0).toLoadRect
  | 10 => arg7.view.readCov (trip_k0_t1.sl.HW_arg7_6 (F := F) arg3 X3 k) (Rect.unit (s := S768x128) ![320, 0] S32x128.size inb_S768x128_S32x128_320_0).toLoadRect
  | 11 => arg7.view.readCov (trip_k0_t1.sl.HW_arg7_6 (F := F) arg3 X3 k) (Rect.unit (s := S768x128) ![352, 0] S32x128.size inb_S768x128_S32x128_352_0).toLoadRect
  | 12 => arg7.view.readCov (trip_k0_t1.sl.HW_arg7_6 (F := F) arg3 X3 k) (Rect.unit (s := S768x128) ![384, 0] S32x128.size inb_S768x128_S32x128_384_0).toLoadRect
  | 13 => arg7.view.readCov (trip_k0_t1.sl.HW_arg7_6 (F := F) arg3 X3 k) (Rect.unit (s := S768x128) ![416, 0] S32x128.size inb_S768x128_S32x128_416_0).toLoadRect
  | 14 => arg7.view.readCov (trip_k0_t1.sl.HW_arg7_6 (F := F) arg3 X3 k) (Rect.unit (s := S768x128) ![448, 0] S32x128.size inb_S768x128_S32x128_448_0).toLoadRect
  | 15 => arg7.view.readCov (trip_k0_t1.sl.HW_arg7_6 (F := F) arg3 X3 k) (Rect.unit (s := S768x128) ![480, 0] S32x128.size inb_S768x128_S32x128_480_0).toLoadRect
  | 16 => arg7.view.readCov (trip_k0_t1.sl.HW_arg7_6 (F := F) arg3 X3 k) (Rect.unit (s := S768x128) ![512, 0] S32x128.size inb_S768x128_S32x128_512_0).toLoadRect
  | 17 => arg7.view.readCov (trip_k0_t1.sl.HW_arg7_6 (F := F) arg3 X3 k) (Rect.unit (s := S768x128) ![544, 0] S32x128.size inb_S768x128_S32x128_544_0).toLoadRect
  | 18 => arg7.view.readCov (trip_k0_t1.sl.HW_arg7_6 (F := F) arg3 X3 k) (Rect.unit (s := S768x128) ![576, 0] S32x128.size inb_S768x128_S32x128_576_0).toLoadRect
  | 19 => arg7.view.readCov (trip_k0_t1.sl.HW_arg7_6 (F := F) arg3 X3 k) (Rect.unit (s := S768x128) ![608, 0] S32x128.size inb_S768x128_S32x128_608_0).toLoadRect
  | 20 => arg7.view.readCov (trip_k0_t1.sl.HW_arg7_6 (F := F) arg3 X3 k) (Rect.unit (s := S768x128) ![640, 0] S32x128.size inb_S768x128_S32x128_640_0).toLoadRect
  | 21 => arg7.view.readCov (trip_k0_t1.sl.HW_arg7_6 (F := F) arg3 X3 k) (Rect.unit (s := S768x128) ![672, 0] S32x128.size inb_S768x128_S32x128_672_0).toLoadRect
  | 22 => arg7.view.readCov (trip_k0_t1.sl.HW_arg7_6 (F := F) arg3 X3 k) (Rect.unit (s := S768x128) ![704, 0] S32x128.size inb_S768x128_S32x128_704_0).toLoadRect
  | _ => arg7.view.readCov (trip_k0_t1.sl.HW_arg7_6 (F := F) arg3 X3 k) (Rect.unit (s := S768x128) ![736, 0] S32x128.size inb_S768x128_S32x128_736_0).toLoadRect

/-- The scale, bias, state and step rows of the trip. -/
def scT : FVec F S1x128 .f32 := extractStridedSlice S1x128 ![0, 0] (k0_pay17 (qld arg2 X2 k)) slices_S8x128_o0_0_S1x128
def biT : FVec F S1x128 .f32 := extractStridedSlice S1x128 ![1, 0] (k0_pay17 (qld arg2 X2 k)) slices_S8x128_o1_0_S1x128
def stT : FVec F S1x128 .f32 := stV (gld arg3 X3 k) (qld arg2 X2 k)
def muT : FVec F S1x128 .f32 := muV (stT arg2 arg3 X2 X3 k)
/-- The updated weights of rows `32 j .. 32 j + 31`. -/
def wnT (j : ℕ) : FVec F S32x128 .f32 :=
  wnV (scT arg2 X2 k) (biT arg2 X2 k) (muT arg2 arg3 X2 X3 k) (wld arg1 X1 k j) (gv arg3 arg7 X3 k j)

theorem r4_eq : trip_k0_t1.sl.r_4 arg2 X2 k = scT arg2 X2 k := rfl
theorem r5_eq : trip_k0_t1.sl.r_5 arg2 X2 k = biT arg2 X2 k := rfl
theorem r6_eq : trip_k0_t1.sl.r_6 arg2 arg3 X2 X3 k = stT arg2 arg3 X2 X3 k := rfl
theorem r7_eq : trip_k0_t1.sl.r_7 arg2 arg3 X2 X3 k = muT arg2 arg3 X2 X3 k := rfl

set_option maxHeartbeats 4000000 in
theorem r61_eq : trip_k0_t1.sl.r_61 arg1 arg2 arg3 arg7 X1 X2 X3 k = loV (wnT arg1 arg2 arg3 arg7 X1 X2 X3 k) := rfl
set_option maxHeartbeats 4000000 in
theorem r62_eq : trip_k0_t1.sl.r_62 arg1 arg2 arg3 arg7 X1 X2 X3 k = rngV (wnT arg1 arg2 arg3 arg7 X1 X2 X3 k) := rfl

end Trip

end Cert.KernelIdeal.Val

end
-- ==== Proof.Blocks.lean ====
module

public import proofs.«01_k».proof.Proof.Pieces
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-! ### One trip as functions of the four input blocks -/

section Block
variable (B1 : S192x1280.Idx → Elt F .i32) (B2 : S8x1280.Idx → Elt F .i32)
  (B3 : S1x7680x128.Idx → Elt F .f32) (B4 : S1280x768.Idx → Elt F .i32) (k : ℕ)

/-- The qparam words of lane block `k`. -/
def qB : Vec F S8x128 .i32 := fun x => B2 (ValueIdx.ix2 (x 0) (Fin.ofNat 1280 (128 * k + (x 1).val)))
/-- The word rows `8 j .. 8 j + 7` of lane block `k`. -/
def wB (j : ℕ) : Vec F S8x128 .i32 := fun x => B1 (ValueIdx.ix2 (Fin.ofNat 192 (8 * j + (x 0).val)) (Fin.ofNat 1280 (128 * k + (x 1).val)))
/-- Feature block `c` of the gradients of the 128 slots of lane block `k`. -/
def gB (c : ℕ) : Vec F S1x128x128 .f32 := fun x => B3 (ValueIdx.ix3 (x 0) (Fin.ofNat 7680 (768 * k + c + 6 * (x 1).val)) (x 2))
/-- The random words of feature block `c` of the 128 slots of lane block `k`. -/
def rB (c : ℕ) : Vec F S128x128 .i32 := fun x => B4 (ValueIdx.ix2 (Fin.ofNat 1280 (128 * k + (x 0).val)) (Fin.ofNat 768 (128 * c + (x 1).val)))
/-- All 768 rows of transposed gradients. -/
def gtB : S768x128.Idx → Elt F .f32 := fun y => gtV (gB B3 k ((y 0).val / 128)) (ValueIdx.ix2 (Fin.ofNat 128 (y 0).val) (y 1))
/-- Their rows `32 j .. 32 j + 31`. -/
def gvB (j : ℕ) : Vec F S32x128 .f32 := fun x => gtB B3 k (ValueIdx.ix2 (Fin.ofNat 768 (32 * j + (x 0).val)) (x 1))
def scB : FVec F S1x128 .f32 := extractStridedSlice S1x128 ![0, 0] (k0_pay17 (qB B2 k)) slices_S8x128_o0_0_S1x128
def biB : FVec F S1x128 .f32 := extractStridedSlice S1x128 ![1, 0] (k0_pay17 (qB B2 k)) slices_S8x128_o1_0_S1x128
/-- The new state row. -/
def stB : FVec F S1x128 .f32 := stV (gB B3 k) (qB B2 k)
def muB : FVec F S1x128 .f32 := muV (stB B2 B3 k)
/-- The updated weights of rows `32 j .. 32 j + 31`. -/
def wnB (j : ℕ) : FVec F S32x128 .f32 := wnV (scB B2 k) (biB B2 k) (muB B2 B3 k) (wB B1 k j) (gvB B3 k j)
/-- All 768 rows of updated weights. -/
def wnAll : S768x128.Idx → Elt F .f32 := fun y => wnB B1 B2 B3 k ((y 0).val / 32) (ValueIdx.ix2 (Fin.ofNat 32 (y 0).val) (y 1))
/-- Their rows `128 c .. 128 c + 127`. -/
def vB (c : ℕ) : Vec F S128x128 .f32 := fun x => wnAll B1 B2 B3 k (ValueIdx.ix2 (Fin.ofNat 768 (128 * c + (x 0).val)) (x 1))
def loB : FVec F S1x128 .f32 := loV (wnB B1 B2 B3 k)
def rngB : FVec F S1x128 .f32 := rngV (wnB B1 B2 B3 k)
/-- The new scale row. -/
def nsB : FVec F S1x128 .f32 := divf (rngB B1 B2 B3 k) (broadcast S1x128 (Scalar.ofBits .f32 0x437F0000#32))
/-- The requantised codes of feature block `c`. -/
def codeB (c : ℕ) : IVec S128x128 8 := codeV (loB B1 B2 B3 k) (rngB B1 B2 B3 k) (rB B4 k c) (vB B1 B2 B3 k c)

end Block

/-- The block of bytes written at a grid point, from its four input blocks. -/
def outB (B1 : S192x1280.Idx → Elt F .i32) (B2 : S8x1280.Idx → Elt F .i32)
    (B3 : S1x7680x128.Idx → Elt F .f32) (B4 : S1280x768.Idx → Elt F .i32) : S776x1280.Idx → Elt F .i8 := fun y =>
  if (y 0).val < 768 then
    codeB B1 B2 B3 B4 ((y 1).val / 128) ((y 0).val / 128) (ValueIdx.ix2 (Fin.ofNat 128 (y 0).val) (Fin.ofNat 128 (y 1).val))
  else k0_pay129 (ValueIdx.ix2 (Fin.ofNat 8 ((y 0).val - 768)) (Fin.ofNat 128 (y 1).val))

/-- The block of new scales, minima and states written at a grid point. -/
def auxB (B1 : S192x1280.Idx → Elt F .i32) (B2 : S8x1280.Idx → Elt F .i32)
    (B3 : S1x7680x128.Idx → Elt F .f32) : S8x1280.Idx → Elt F .f32 := fun y =>
  if (y 0).val = 0 then nsB B1 B2 B3 ((y 1).val / 128) (ValueIdx.ix2 0 (Fin.ofNat 128 (y 1).val))
  else if (y 0).val = 1 then loB B1 B2 B3 ((y 1).val / 128) (ValueIdx.ix2 0 (Fin.ofNat 128 (y 1).val))
  else if (y 0).val = 2 then stB B2 B3 ((y 1).val / 128) (ValueIdx.ix2 0 (Fin.ofNat 128 (y 1).val))
  else k0_pay1 (ValueIdx.ix2 (Fin.ofNat 5 ((y 0).val - 3)) (Fin.ofNat 128 (y 1).val))

/-! ### The trip's loads are the blocks' -/

section Trip
variable (arg1 : Memref sig .tc .vmem S192x1280 .i32) (arg2 : Memref sig .tc .vmem S8x1280 .i32)
  (arg3 : Memref sig .tc .vmem S1x7680x128 .f32) (arg4 : Memref sig .tc .vmem S1280x768 .i32)
  (arg5 : Memref sig .tc .vmem S776x1280 .i8) (arg6 : Memref sig .tc .vmem S8x1280 .f32)
  (arg7 : Memref sig .tc .vmem S768x128 .f32) (arg8 : Memref sig .tc .vmem S768x128 .f32)
  (X1 : BufTy.Contents (Elt F) arg1.view.ty) (X2 : BufTy.Contents (Elt F) arg2.view.ty)
  (X3 : BufTy.Contents (Elt F) arg3.view.ty) (X4 : BufTy.Contents (Elt F) arg4.view.ty)
  (k : Fin k0_t1_loop.trips)

theorem k_lt : k.val < 10 := Nat.lt_of_lt_of_le k.isLt k0_t1_abs.2.1

/-- A rank-two unit load is the block at shifted coordinates. -/
theorem readAt_unit2 {n0 n1 m0 m1 : ℕ} {e : EltTy} (a : Memref sig .tc .vmem ⟨2, ![n0, n1]⟩ e) (X : BufTy.Contents (Elt F) a.view.ty)
    (off : Fin 2 → ℕ) (o0 o1 : ℕ) (hoff : off = ![o0, o1]) (inb) (x : (⟨2, ![m0, m1]⟩ : Shape).Idx)
    [NeZero n0] [NeZero n1] :
    a.view.readAt (Elt F) (Rect.unit (s := ⟨2, ![n0, n1]⟩) off ![m0, m1] inb).toLoadRect X x
      = a.view.read (Elt F) X (ValueIdx.ix2 (Fin.ofNat n0 (o0 + (x 0).val)) (Fin.ofNat n1 (o1 + (x 1).val))) := by
  subst hoff
  rw [View.readAt_apply]
  congr 1
  funext a'
  have h0 : o0 + m0 ≤ n0 := inb 0
  have h1 : o1 + m1 ≤ n1 := inb 1
  have x0 : (x 0).val < m0 := (x 0).isLt
  have x1 : (x 1).val < m1 := (x 1).isLt
  apply Fin.ext
  match a' with
  | ⟨0, _⟩ =>
    show o0 + 1 * (x 0).val = (o0 + (x 0).val) % n0
    rw [Nat.mod_eq_of_lt (by omega), Nat.one_mul]
  | ⟨1, _⟩ =>
    show o1 + 1 * (x 1).val = (o1 + (x 1).val) % n1
    rw [Nat.mod_eq_of_lt (by omega), Nat.one_mul]

theorem qld_eq : qld arg2 X2 k = qB (arg2.view.read (Elt F) X2) k.val := by
  funext x
  refine (readAt_unit2 arg2 X2 _ 0 (128 * k.val) (k0_off2_eq k) _ x).trans ?_
  unfold qB
  congr 2
  apply Fin.ext
  show (0 + (x 0).val) % 8 = (x 0).val
  have : (x 0).val < 8 := (x 0).isLt
  omega

theorem wld_eq : ∀ j : ℕ, j < 24 → wld arg1 X1 k j = wB (arg1.view.read (Elt F) X1) k.val j := by
  intro j hj
  match j, hj with
  | 0, _ => exact funext fun x => readAt_unit2 arg1 X1 _ 0 (128 * k.val) (k0_off3_eq k) _ x
  | 1, _ => exact funext fun x => readAt_unit2 arg1 X1 _ 8 (128 * k.val) (k0_off4_eq k) _ x
  | 2, _ => exact funext fun x => readAt_unit2 arg1 X1 _ 16 (128 * k.val) (k0_off5_eq k) _ x
  | 3, _ => exact funext fun x => readAt_unit2 arg1 X1 _ 24 (128 * k.val) (k0_off6_eq k) _ x
  | 4, _ => exact funext fun x => readAt_unit2 arg1 X1 _ 32 (128 * k.val) (k0_off7_eq k) _ x
  | 5, _ => exact funext fun x => readAt_unit2 arg1 X1 _ 40 (128 * k.val) (k0_off8_eq k) _ x
  | 6, _ => exact funext fun x => readAt_unit2 arg1 X1 _ 48 (128 * k.val) (k0_off9_eq k) _ x
  | 7, _ => exact funext fun x => readAt_unit2 arg1 X1 _ 56 (128 * k.val) (k0_off10_eq k) _ x
  | 8, _ => exact funext fun x => readAt_unit2 arg1 X1 _ 64 (128 * k.val) (k0_off11_eq k) _ x
  | 9, _ => exact funext fun x => readAt_unit2 arg1 X1 _ 72 (128 * k.val) (k0_off12_eq k) _ x
  | 10, _ => exact funext fun x => readAt_unit2 arg1 X1 _ 80 (128 * k.val) (k0_off13_eq k) _ x
  | 11, _ => exact funext fun x => readAt_unit2 arg1 X1 _ 88 (128 * k.val) (k0_off14_eq k) _ x
  | 12, _ => exact funext fun x => readAt_unit2 arg1 X1 _ 96 (128 * k.val) (k0_off15_eq k) _ x
  | 13, _ => exact funext fun x => readAt_unit2 arg1 X1 _ 104 (128 * k.val) (k0_off16_eq k) _ x
  | 14, _ => exact funext fun x => readAt_unit2 arg1 X1 _ 112 (128 * k.val) (k0_off17_eq k) _ x
  | 15, _ => exact funext fun x => readAt_unit2 arg1 X1 _ 120 (128 * k.val) (k0_off18_eq k) _ x
  | 16, _ => exact funext fun x => readAt_unit2 arg1 X1 _ 128 (128 * k.val) (k0_off19_eq k) _ x
  | 17, _ => exact funext fun x => readAt_unit2 arg1 X1 _ 136 (128 * k.val) (k0_off20_eq k) _ x
  | 18, _ => exact funext fun x => readAt_unit2 arg1 X1 _ 144 (128 * k.val) (k0_off21_eq k) _ x
  | 19, _ => exact funext fun x => readAt_unit2 arg1 X1 _ 152 (128 * k.val) (k0_off22_eq k) _ x
  | 20, _ => exact funext fun x => readAt_unit2 arg1 X1 _ 160 (128 * k.val) (k0_off23_eq k) _ x
  | 21, _ => exact funext fun x => readAt_unit2 arg1 X1 _ 168 (128 * k.val) (k0_off24_eq k) _ x
  | 22, _ => exact funext fun x => readAt_unit2 arg1 X1 _ 176 (128 * k.val) (k0_off25_eq k) _ x
  | 23, _ => exact funext fun x => readAt_unit2 arg1 X1 _ 184 (128 * k.val) (k0_off26_eq k) _ x
  | n + 24, h => exact absurd h (by omega)

theorem rld_eq : ∀ c : ℕ, c < 6 → rld arg4 X4 k c = rB (arg4.view.read (Elt F) X4) k.val c := by
  intro c hc
  match c, hc with
  | 0, _ => exact funext fun x => readAt_unit2 arg4 X4 _ (128 * k.val) 0 (k0_off27_eq k) _ x
  | 1, _ => exact funext fun x => readAt_unit2 arg4 X4 _ (128 * k.val) 128 (k0_off29_eq k) _ x
  | 2, _ => exact funext fun x => readAt_unit2 arg4 X4 _ (128 * k.val) 256 (k0_off31_eq k) _ x
  | 3, _ => exact funext fun x => readAt_unit2 arg4 X4 _ (128 * k.val) 384 (k0_off33_eq k) _ x
  | 4, _ => exact funext fun x => readAt_unit2 arg4 X4 _ (128 * k.val) 512 (k0_off35_eq k) _ x
  | 5, _ => exact funext fun x => readAt_unit2 arg4 X4 _ (128 * k.val) 640 (k0_off37_eq k) _ x
  | n + 6, h => exact absurd h (by omega)

theorem gld_aux (c : Fin 6) (x : S1x128x128.Idx) :
    arg3.view.readAt (Elt F) ⟨k0_off1 k (BitVec.ofNat 32 c.val), S1x128x128.size, ![1, 6, 1], k0_off1_inb k c⟩ X3 x
      = gB (arg3.view.read (Elt F) X3) k.val c.val x := by
  rw [View.readAt_apply]
  unfold gB
  congr 1
  funext a'
  have hk := k_lt k
  have x0 : (x 0).val < 1 := (x 0).isLt
  have x1 : (x 1).val < 128 := (x 1).isLt
  have x2 : (x 2).val < 128 := (x 2).isLt
  apply Fin.ext
  rw [LoadRect.idx_apply]
  have e := congrFun (k0_off1_eq k c) a'
  show (k0_off1 k (BitVec.ofNat 32 c.val)) a' + _ = _
  refine (congrArg (· + _) e).trans ?_
  match a' with
  | ⟨0, _⟩ => show 0 + 1 * (x 0).val = (x 0).val; omega
  | ⟨1, _⟩ =>
    show 768 * k.val + c.val + 6 * (x 1).val = (768 * k.val + c.val + 6 * (x 1).val) % 7680
    rw [Nat.mod_eq_of_lt (by omega)]
  | ⟨2, _⟩ => show 0 + 1 * (x 2).val = (x 2).val; omega

theorem gld_eq : ∀ c : ℕ, c < 6 → gld arg3 X3 k c = gB (arg3.view.read (Elt F) X3) k.val c := by
  intro c hc
  match c, hc with
  | 0, _ => exact funext fun x => gld_aux arg3 X3 k ⟨0, by decide⟩ x
  | 1, _ => exact funext fun x => gld_aux arg3 X3 k ⟨1, by decide⟩ x
  | 2, _ => exact funext fun x => gld_aux arg3 X3 k ⟨2, by decide⟩ x
  | 3, _ => exact funext fun x => gld_aux arg3 X3 k ⟨3, by decide⟩ x
  | 4, _ => exact funext fun x => gld_aux arg3 X3 k ⟨4, by decide⟩ x
  | 5, _ => exact funext fun x => gld_aux arg3 X3 k ⟨5, by decide⟩ x
  | n + 6, h => exact absurd h (by omega)

end Trip

end Cert.KernelIdeal.Val

end
-- ==== Proof.Trip.lean ====
/-
  What one trip of the update kernel's lane loop stores: every piece it writes into the two result blocks is the block
  function's (`outB`, `auxB`) at the piece's place, and the pieces of the ten trips cover both blocks.
-/
module

public import proofs.«01_k».proof.Proof.Blocks
public import Idealize.ShloMosaic.Lib.Pipeline.ReadBack

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- Membership in a rectangle of rows of a two-axis array. -/
theorem mem_rect2 {n0 n1 : ℕ} (off : Fin 2 → ℕ) (o0 o1 m0 m1 : ℕ) (hoff : off = ![o0, o1]) (inb) (y : (⟨2, ![n0, n1]⟩ : Shape).Idx)
    (h0 : o0 ≤ (y 0).val ∧ (y 0).val < o0 + m0) (h1 : o1 ≤ (y 1).val ∧ (y 1).val < o1 + m1) :
    y ∈ (Rect.unit (s := ⟨2, ![n0, n1]⟩) off ![m0, m1] inb).set := by
  subst hoff
  rw [Rect.mem_set_unit]
  intro a
  match a with
  | ⟨0, _⟩ => exact h0
  | ⟨1, _⟩ => exact h1

/-- The place of an element of a rectangle. -/
theorem emb2 {n0 n1 : ℕ} [NeZero n0] [NeZero n1] (off : Fin 2 → ℕ) (o0 o1 m0 m1 : ℕ) (hoff : off = ![o0, o1]) (inb)
    (x : (⟨2, ![m0, m1]⟩ : Shape).Idx) :
    (Rect.unit (s := ⟨2, ![n0, n1]⟩) off ![m0, m1] inb).emb x
      = ValueIdx.ix2 (Fin.ofNat n0 (o0 + (x 0).val)) (Fin.ofNat n1 (o1 + (x 1).val)) := by
  subst hoff
  funext a'
  have h0 : o0 + m0 ≤ n0 := inb 0
  have h1 : o1 + m1 ≤ n1 := inb 1
  have x0 : (x 0).val < m0 := (x 0).isLt
  have x1 : (x 1).val < m1 := (x 1).isLt
  apply Fin.ext
  match a' with
  | ⟨0, _⟩ =>
    show o0 + 1 * (x 0).val = (o0 + (x 0).val) % n0
    rw [Nat.mod_eq_of_lt (by omega), Nat.one_mul]
  | ⟨1, _⟩ =>
    show o1 + 1 * (x 1).val = (o1 + (x 1).val) % n1
    rw [Nat.mod_eq_of_lt (by omega), Nat.one_mul]

/-- Two indices of a two-axis array with equal coordinates. -/
theorem ix2_ext {n0 n1 : ℕ} {a b : (⟨2, ![n0, n1]⟩ : Shape).Idx} (h0 : (a 0).val = (b 0).val) (h1 : (a 1).val = (b 1).val) : a = b := by
  funext i
  match i with
  | ⟨0, _⟩ => exact Fin.ext h0
  | ⟨1, _⟩ => exact Fin.ext h1

section Trip
variable (arg1 : Memref sig .tc .vmem S192x1280 .i32) (arg2 : Memref sig .tc .vmem S8x1280 .i32)
  (arg3 : Memref sig .tc .vmem S1x7680x128 .f32) (arg4 : Memref sig .tc .vmem S1280x768 .i32)
  (arg5 : Memref sig .tc .vmem S776x1280 .i8) (arg6 : Memref sig .tc .vmem S8x1280 .f32)
  (arg7 : Memref sig .tc .vmem S768x128 .f32) (arg8 : Memref sig .tc .vmem S768x128 .f32)
  (X1 : BufTy.Contents (Elt F) arg1.view.ty) (X2 : BufTy.Contents (Elt F) arg2.view.ty)
  (X3 : BufTy.Contents (Elt F) arg3.view.ty) (X4 : BufTy.Contents (Elt F) arg4.view.ty)
  (k : Fin k0_t1_loop.trips)

/-! ### The transposed gradients in the first scratch -/

theorem piece7 (c : ℕ) (hc : c < 6) (o : ℕ) (ho : o = 128 * c) (inb) (pay : Vec F S128x128 .f32)
    (hp : pay = shapeCast S128x128 (gtV (gld arg3 X3 k c)) shapeCasts_S128x128_S128x128)
    (x : S128x128.Idx) :
    pay x = gtB (arg3.view.read (Elt F) X3) k.val ((Rect.unit (s := S768x128) ![o, 0] S128x128.size inb).emb x) := by
  subst ho hp
  rw [shapeCast_self, gld_eq arg3 X3 k c hc]
  have x0 : (x 0).val < 128 := (x 0).isLt
  have x1 : (x 1).val < 128 := (x 1).isLt
  refine Eq.trans ?_ (congrArg _ (emb2 (n0 := 768) (n1 := 128) _ (128 * c) 0 128 128 rfl inb x).symm)
  show _ = gtV (gB (arg3.view.read (Elt F) X3) k.val ((128 * c + (x 0).val) % 768 / 128)) _
  rw [show (128 * c + (x 0).val) % 768 / 128 = c by omega]
  congr 1
  refine ix2_ext ?_ ?_
  · show (x 0).val = (128 * c + (x 0).val) % 768 % 128; omega
  · show (x 1).val = (0 + (x 1).val) % 128; omega

theorem pieces7 : View.PiecesOf (gtB (arg3.view.read (Elt F) X3) k.val) (trip_k0_t1.sl.HW_arg7_6 (F := F) arg3 X3 k) := by
  unfold trip_k0_t1.sl.HW_arg7_6
  refine ⟨?_, ?_, ?_, ?_, ?_, ?_, trivial⟩
  · exact piece7 arg3 X3 k 5 (by decide) 640 rfl inb_S768x128_S128x128_640_0 _ rfl
  · exact piece7 arg3 X3 k 4 (by decide) 512 rfl inb_S768x128_S128x128_512_0 _ rfl
  · exact piece7 arg3 X3 k 3 (by decide) 384 rfl inb_S768x128_S128x128_384_0 _ rfl
  · exact piece7 arg3 X3 k 2 (by decide) 256 rfl inb_S768x128_S128x128_256_0 _ rfl
  · exact piece7 arg3 X3 k 1 (by decide) 128 rfl inb_S768x128_S128x128_128_0 _ rfl
  · exact piece7 arg3 X3 k 0 (by decide) 0 rfl inb_S768x128_S128x128_0_0 _ rfl

theorem cover7 (y : S768x128.Idx) : ∃ p ∈ trip_k0_t1.sl.HW_arg7_6 (F := F) arg3 X3 k, y ∈ p.1.set := by
  have y0 : (y 0).val < 768 := (y 0).isLt
  have y1 : (y 1).val < 128 := (y 1).isLt
  have hlen : (trip_k0_t1.sl.HW_arg7_6 (F := F) arg3 X3 k).length = 6 := rfl
  have key : ∀ c : ℕ, c < 6 → c = (y 0).val / 128 → ∃ p ∈ trip_k0_t1.sl.HW_arg7_6 (F := F) arg3 X3 k, y ∈ p.1.set := by
    intro c hc h
    refine ⟨_, List.getElem_mem (n := 5 - c) (by rw [hlen]; omega), ?_⟩
    match c, hc with
    | 0, _ => exact mem_rect2 (n0 := 768) (n1 := 128) ![0, 0] 0 0 128 128 rfl inb_S768x128_S128x128_0_0 y (by omega) (by omega)
    | 1, _ => exact mem_rect2 (n0 := 768) (n1 := 128) ![128, 0] 128 0 128 128 rfl inb_S768x128_S128x128_128_0 y (by omega) (by omega)
    | 2, _ => exact mem_rect2 (n0 := 768) (n1 := 128) ![256, 0] 256 0 128 128 rfl inb_S768x128_S128x128_256_0 y (by omega) (by omega)
    | 3, _ => exact mem_rect2 (n0 := 768) (n1 := 128) ![384, 0] 384 0 128 128 rfl inb_S768x128_S128x128_384_0 y (by omega) (by omega)
    | 4, _ => exact mem_rect2 (n0 := 768) (n1 := 128) ![512, 0] 512 0 128 128 rfl inb_S768x128_S128x128_512_0 y (by omega) (by omega)
    | 5, _ => exact mem_rect2 (n0 := 768) (n1 := 128) ![640, 0] 640 0 128 128 rfl inb_S768x128_S128x128_640_0 y (by omega) (by omega)
    | n + 6, h => exact absurd h (by omega)
  exact key _ (by omega) rfl

theorem gvAux (o : ℕ) (inb) (x : S32x128.Idx) :
    arg7.view.readCov (trip_k0_t1.sl.HW_arg7_6 (F := F) arg3 X3 k) (Rect.unit (s := S768x128) ![o, 0] S32x128.size inb).toLoadRect x
      = gtB (arg3.view.read (Elt F) X3) k.val (ValueIdx.ix2 (Fin.ofNat 768 (o + (x 0).val)) (x 1)) := by
  rw [View.readCov_eq_canon']
  refine (View.canon_apply_of_pieces _ _ (pieces7 arg3 X3 k).mem _ (cover7 arg3 X3 k _)).trans (congrArg _ ?_)
  have x1 : (x 1).val < 128 := (x 1).isLt
  refine (emb2 (n0 := 768) (n1 := 128) _ o 0 32 128 rfl inb x).trans (ix2_ext rfl ?_)
  show (0 + (x 1).val) % 128 = (x 1).val
  omega

theorem gv_eq : ∀ j : ℕ, j < 24 → gv arg3 arg7 X3 k j = gvB (arg3.view.read (Elt F) X3) k.val j := by
  intro j hj
  match j, hj with
  | 0, _ => exact funext fun x => gvAux arg3 arg7 X3 k 0 _ x
  | 1, _ => exact funext fun x => gvAux arg3 arg7 X3 k 32 _ x
  | 2, _ => exact funext fun x => gvAux arg3 arg7 X3 k 64 _ x
  | 3, _ => exact funext fun x => gvAux arg3 arg7 X3 k 96 _ x
  | 4, _ => exact funext fun x => gvAux arg3 arg7 X3 k 128 _ x
  | 5, _ => exact funext fun x => gvAux arg3 arg7 X3 k 160 _ x
  | 6, _ => exact funext fun x => gvAux arg3 arg7 X3 k 192 _ x
  | 7, _ => exact funext fun x => gvAux arg3 arg7 X3 k 224 _ x
  | 8, _ => exact funext fun x => gvAux arg3 arg7 X3 k 256 _ x
  | 9, _ => exact funext fun x => gvAux arg3 arg7 X3 k 288 _ x
  | 10, _ => exact funext fun x => gvAux arg3 arg7 X3 k 320 _ x
  | 11, _ => exact funext fun x => gvAux arg3 arg7 X3 k 352 _ x
  | 12, _ => exact funext fun x => gvAux arg3 arg7 X3 k 384 _ x
  | 13, _ => exact funext fun x => gvAux arg3 arg7 X3 k 416 _ x
  | 14, _ => exact funext fun x => gvAux arg3 arg7 X3 k 448 _ x
  | 15, _ => exact funext fun x => gvAux arg3 arg7 X3 k 480 _ x
  | 16, _ => exact funext fun x => gvAux arg3 arg7 X3 k 512 _ x
  | 17, _ => exact funext fun x => gvAux arg3 arg7 X3 k 544 _ x
  | 18, _ => exact funext fun x => gvAux arg3 arg7 X3 k 576 _ x
  | 19, _ => exact funext fun x => gvAux arg3 arg7 X3 k 608 _ x
  | 20, _ => exact funext fun x => gvAux arg3 arg7 X3 k 640 _ x
  | 21, _ => exact funext fun x => gvAux arg3 arg7 X3 k 672 _ x
  | 22, _ => exact funext fun x => gvAux arg3 arg7 X3 k 704 _ x
  | 23, _ => exact funext fun x => gvAux arg3 arg7 X3 k 736 _ x
  | n + 24, h => exact absurd h (by omega)

/-! ### The updated weights -/

theorem accC_congr (g g' : ℕ → Vec F S1x128x128 .f32) : ∀ n : ℕ, (∀ c < n, g c = g' c) → accC g n = accC g' n
  | 0, _ => rfl
  | n + 1, h => by
    unfold accC
    rw [accC_congr g g' n (fun c hc => h c (by omega)), h n (by omega)]

theorem mnC_congr (w w' : ℕ → FVec F S32x128 .f32) : ∀ n : ℕ, (∀ c < n, w c = w' c) → mnC w n = mnC w' n
  | 0, _ => rfl
  | n + 1, h => by
    unfold mnC
    rw [mnC_congr w w' n (fun c hc => h c (by omega)), h n (by omega)]

theorem mxC_congr (w w' : ℕ → FVec F S32x128 .f32) : ∀ n : ℕ, (∀ c < n, w c = w' c) → mxC w n = mxC w' n
  | 0, _ => rfl
  | n + 1, h => by
    unfold mxC
    rw [mxC_congr w w' n (fun c hc => h c (by omega)), h n (by omega)]

theorem loV_congr (w w' : ℕ → FVec F S32x128 .f32) (h : ∀ c < 24, w c = w' c) : loV w = loV w' := by
  unfold loV; rw [mnC_congr w w' 24 h]

theorem rngV_congr (w w' : ℕ → FVec F S32x128 .f32) (h : ∀ c < 24, w c = w' c) : rngV w = rngV w' := by
  unfold rngV; rw [mxC_congr w w' 24 h, loV_congr w w' h]

theorem stT_eq : stT arg2 arg3 X2 X3 k = stB (arg2.view.read (Elt F) X2) (arg3.view.read (Elt F) X3) k.val := by
  unfold stT stB stV
  rw [qld_eq, accC_congr _ (gB (arg3.view.read (Elt F) X3) k.val) 6 (fun c hc => gld_eq arg3 X3 k c hc)]

theorem wnT_eq (j : ℕ) (hj : j < 24) : wnT arg1 arg2 arg3 arg7 X1 X2 X3 k j
    = wnB (arg1.view.read (Elt F) X1) (arg2.view.read (Elt F) X2) (arg3.view.read (Elt F) X3) k.val j := by
  unfold wnT wnB scT biT muT scB biB muB
  rw [wld_eq arg1 X1 k j hj, gv_eq arg3 arg7 X3 k j hj, qld_eq, stT_eq]

theorem piece8 (j : ℕ) (hj : j < 24) (o : ℕ) (ho : o = 32 * j) (inb) (pay : Vec F S32x128 .f32)
    (hp : pay = shapeCast S32x128 (wnT arg1 arg2 arg3 arg7 X1 X2 X3 k j) shapeCasts_S32x128_S32x128) (x : S32x128.Idx) :
    pay x = wnAll (arg1.view.read (Elt F) X1) (arg2.view.read (Elt F) X2) (arg3.view.read (Elt F) X3) k.val
          ((Rect.unit (s := S768x128) ![o, 0] S32x128.size inb).emb x) := by
  subst ho hp
  rw [shapeCast_self, wnT_eq arg1 arg2 arg3 arg7 X1 X2 X3 k j hj]
  have x0 : (x 0).val < 32 := (x 0).isLt
  have x1 : (x 1).val < 128 := (x 1).isLt
  refine Eq.trans ?_ (congrArg _ (emb2 (n0 := 768) (n1 := 128) _ (32 * j) 0 32 128 rfl inb x).symm)
  show _ = wnB (arg1.view.read (Elt F) X1) (arg2.view.read (Elt F) X2) (arg3.view.read (Elt F) X3) k.val
    ((32 * j + (x 0).val) % 768 / 32) _
  rw [show (32 * j + (x 0).val) % 768 / 32 = j by omega]
  congr 1
  refine ix2_ext ?_ ?_
  · show (x 0).val = (32 * j + (x 0).val) % 768 % 32; omega
  · show (x 1).val = (0 + (x 1).val) % 128; omega

set_option maxHeartbeats 1000000 in
theorem pieces8 : View.PiecesOf (wnAll (arg1.view.read (Elt F) X1) (arg2.view.read (Elt F) X2) (arg3.view.read (Elt F) X3) k.val)
    (trip_k0_t1.sl.HW_arg8_24 (F := F) arg1 arg2 arg3 arg7 X1 X2 X3 k) := by
  unfold trip_k0_t1.sl.HW_arg8_24
  refine ⟨?_, ?_, ?_, ?_, ?_, ?_, ?_, ?_, ?_, ?_, ?_, ?_, ?_, ?_, ?_, ?_, ?_, ?_, ?_, ?_, ?_, ?_, ?_, ?_, trivial⟩
  · exact piece8 arg1 arg2 arg3 arg7 X1 X2 X3 k 23 (by decide) 736 rfl inb_S768x128_S32x128_736_0 _ rfl
  · exact piece8 arg1 arg2 arg3 arg7 X1 X2 X3 k 22 (by decide) 704 rfl inb_S768x128_S32x128_704_0 _ rfl
  · exact piece8 arg1 arg2 arg3 arg7 X1 X2 X3 k 21 (by decide) 672 rfl inb_S768x128_S32x128_672_0 _ rfl
  · exact piece8 arg1 arg2 arg3 arg7 X1 X2 X3 k 20 (by decide) 640 rfl inb_S768x128_S32x128_640_0 _ rfl
  · exact piece8 arg1 arg2 arg3 arg7 X1 X2 X3 k 19 (by decide) 608 rfl inb_S768x128_S32x128_608_0 _ rfl
  · exact piece8 arg1 arg2 arg3 arg7 X1 X2 X3 k 18 (by decide) 576 rfl inb_S768x128_S32x128_576_0 _ rfl
  · exact piece8 arg1 arg2 arg3 arg7 X1 X2 X3 k 17 (by decide) 544 rfl inb_S768x128_S32x128_544_0 _ rfl
  · exact piece8 arg1 arg2 arg3 arg7 X1 X2 X3 k 16 (by decide) 512 rfl inb_S768x128_S32x128_512_0 _ rfl
  · exact piece8 arg1 arg2 arg3 arg7 X1 X2 X3 k 15 (by decide) 480 rfl inb_S768x128_S32x128_480_0 _ rfl
  · exact piece8 arg1 arg2 arg3 arg7 X1 X2 X3 k 14 (by decide) 448 rfl inb_S768x128_S32x128_448_0 _ rfl
  · exact piece8 arg1 arg2 arg3 arg7 X1 X2 X3 k 13 (by decide) 416 rfl inb_S768x128_S32x128_416_0 _ rfl
  · exact piece8 arg1 arg2 arg3 arg7 X1 X2 X3 k 12 (by decide) 384 rfl inb_S768x128_S32x128_384_0 _ rfl
  · exact piece8 arg1 arg2 arg3 arg7 X1 X2 X3 k 11 (by decide) 352 rfl inb_S768x128_S32x128_352_0 _ rfl
  · exact piece8 arg1 arg2 arg3 arg7 X1 X2 X3 k 10 (by decide) 320 rfl inb_S768x128_S32x128_320_0 _ rfl
  · exact piece8 arg1 arg2 arg3 arg7 X1 X2 X3 k 9 (by decide) 288 rfl inb_S768x128_S32x128_288_0 _ rfl
  · exact piece8 arg1 arg2 arg3 arg7 X1 X2 X3 k 8 (by decide) 256 rfl inb_S768x128_S32x128_256_0 _ rfl
  · exact piece8 arg1 arg2 arg3 arg7 X1 X2 X3 k 7 (by decide) 224 rfl inb_S768x128_S32x128_224_0 _ rfl
  · exact piece8 arg1 arg2 arg3 arg7 X1 X2 X3 k 6 (by decide) 192 rfl inb_S768x128_S32x128_192_0 _ rfl
  · exact piece8 arg1 arg2 arg3 arg7 X1 X2 X3 k 5 (by decide) 160 rfl inb_S768x128_S32x128_160_0 _ rfl
  · exact piece8 arg1 arg2 arg3 arg7 X1 X2 X3 k 4 (by decide) 128 rfl inb_S768x128_S32x128_128_0 _ rfl
  · exact piece8 arg1 arg2 arg3 arg7 X1 X2 X3 k 3 (by decide) 96 rfl inb_S768x128_S32x128_96_0 _ rfl
  · exact piece8 arg1 arg2 arg3 arg7 X1 X2 X3 k 2 (by decide) 64 rfl inb_S768x128_S32x128_64_0 _ rfl
  · exact piece8 arg1 arg2 arg3 arg7 X1 X2 X3 k 1 (by decide) 32 rfl inb_S768x128_S32x128_32_0 _ rfl
  · exact piece8 arg1 arg2 arg3 arg7 X1 X2 X3 k 0 (by decide) 0 rfl inb_S768x128_S32x128_0_0 _ rfl

theorem cover8 (y : S768x128.Idx) : ∃ p ∈ trip_k0_t1.sl.HW_arg8_24 (F := F) arg1 arg2 arg3 arg7 X1 X2 X3 k, y ∈ p.1.set := by
  have y0 : (y 0).val < 768 := (y 0).isLt
  have y1 : (y 1).val < 128 := (y 1).isLt
  have hlen : (trip_k0_t1.sl.HW_arg8_24 (F := F) arg1 arg2 arg3 arg7 X1 X2 X3 k).length = 24 := rfl
  have key : ∀ c : ℕ, c < 24 → c = (y 0).val / 32 →
      ∃ p ∈ trip_k0_t1.sl.HW_arg8_24 (F := F) arg1 arg2 arg3 arg7 X1 X2 X3 k, y ∈ p.1.set := by
    intro c hc h
    refine ⟨_, List.getElem_mem (n := 23 - c) (by rw [hlen]; omega), ?_⟩
    match c, hc with
    | 0, _ => exact mem_rect2 (n0 := 768) (n1 := 128) ![0, 0] 0 0 32 128 rfl inb_S768x128_S32x128_0_0 y (by omega) (by omega)
    | 1, _ => exact mem_rect2 (n0 := 768) (n1 := 128) ![32, 0] 32 0 32 128 rfl inb_S768x128_S32x128_32_0 y (by omega) (by omega)
    | 2, _ => exact mem_rect2 (n0 := 768) (n1 := 128) ![64, 0] 64 0 32 128 rfl inb_S768x128_S32x128_64_0 y (by omega) (by omega)
    | 3, _ => exact mem_rect2 (n0 := 768) (n1 := 128) ![96, 0] 96 0 32 128 rfl inb_S768x128_S32x128_96_0 y (by omega) (by omega)
    | 4, _ => exact mem_rect2 (n0 := 768) (n1 := 128) ![128, 0] 128 0 32 128 rfl inb_S768x128_S32x128_128_0 y (by omega) (by omega)
    | 5, _ => exact mem_rect2 (n0 := 768) (n1 := 128) ![160, 0] 160 0 32 128 rfl inb_S768x128_S32x128_160_0 y (by omega) (by omega)
    | 6, _ => exact mem_rect2 (n0 := 768) (n1 := 128) ![192, 0] 192 0 32 128 rfl inb_S768x128_S32x128_192_0 y (by omega) (by omega)
    | 7, _ => exact mem_rect2 (n0 := 768) (n1 := 128) ![224, 0] 224 0 32 128 rfl inb_S768x128_S32x128_224_0 y (by omega) (by omega)
    | 8, _ => exact mem_rect2 (n0 := 768) (n1 := 128) ![256, 0] 256 0 32 128 rfl inb_S768x128_S32x128_256_0 y (by omega) (by omega)
    | 9, _ => exact mem_rect2 (n0 := 768) (n1 := 128) ![288, 0] 288 0 32 128 rfl inb_S768x128_S32x128_288_0 y (by omega) (by omega)
    | 10, _ => exact mem_rect2 (n0 := 768) (n1 := 128) ![320, 0] 320 0 32 128 rfl inb_S768x128_S32x128_320_0 y (by omega) (by omega)
    | 11, _ => exact mem_rect2 (n0 := 768) (n1 := 128) ![352, 0] 352 0 32 128 rfl inb_S768x128_S32x128_352_0 y (by omega) (by omega)
    | 12, _ => exact mem_rect2 (n0 := 768) (n1 := 128) ![384, 0] 384 0 32 128 rfl inb_S768x128_S32x128_384_0 y (by omega) (by omega)
    | 13, _ => exact mem_rect2 (n0 := 768) (n1 := 128) ![416, 0] 416 0 32 128 rfl inb_S768x128_S32x128_416_0 y (by omega) (by omega)
    | 14, _ => exact mem_rect2 (n0 := 768) (n1 := 128) ![448, 0] 448 0 32 128 rfl inb_S768x128_S32x128_448_0 y (by omega) (by omega)
    | 15, _ => exact mem_rect2 (n0 := 768) (n1 := 128) ![480, 0] 480 0 32 128 rfl inb_S768x128_S32x128_480_0 y (by omega) (by omega)
    | 16, _ => exact mem_rect2 (n0 := 768) (n1 := 128) ![512, 0] 512 0 32 128 rfl inb_S768x128_S32x128_512_0 y (by omega) (by omega)
    | 17, _ => exact mem_rect2 (n0 := 768) (n1 := 128) ![544, 0] 544 0 32 128 rfl inb_S768x128_S32x128_544_0 y (by omega) (by omega)
    | 18, _ => exact mem_rect2 (n0 := 768) (n1 := 128) ![576, 0] 576 0 32 128 rfl inb_S768x128_S32x128_576_0 y (by omega) (by omega)
    | 19, _ => exact mem_rect2 (n0 := 768) (n1 := 128) ![608, 0] 608 0 32 128 rfl inb_S768x128_S32x128_608_0 y (by omega) (by omega)
    | 20, _ => exact mem_rect2 (n0 := 768) (n1 := 128) ![640, 0] 640 0 32 128 rfl inb_S768x128_S32x128_640_0 y (by omega) (by omega)
    | 21, _ => exact mem_rect2 (n0 := 768) (n1 := 128) ![672, 0] 672 0 32 128 rfl inb_S768x128_S32x128_672_0 y (by omega) (by omega)
    | 22, _ => exact mem_rect2 (n0 := 768) (n1 := 128) ![704, 0] 704 0 32 128 rfl inb_S768x128_S32x128_704_0 y (by omega) (by omega)
    | 23, _ => exact mem_rect2 (n0 := 768) (n1 := 128) ![736, 0] 736 0 32 128 rfl inb_S768x128_S32x128_736_0 y (by omega) (by omega)
    | n + 24, h => exact absurd h (by omega)
  exact key _ (by omega) rfl

/-- The updated weights of rows `128 c .. 128 c + 127` read back from the second scratch. -/
def vT (c : ℕ) (inb : ∀ a, (![128 * c, 0] : Fin 2 → ℕ) a + S128x128.size a ≤ S768x128.size a) : Vec F S128x128 .f32 :=
  arg8.view.readCov (trip_k0_t1.sl.HW_arg8_24 (F := F) arg1 arg2 arg3 arg7 X1 X2 X3 k)
    (Rect.unit (s := S768x128) ![128 * c, 0] S128x128.size inb).toLoadRect

theorem vT_eq (c : ℕ) (inb) : vT arg1 arg2 arg3 arg7 arg8 X1 X2 X3 k c inb
    = vB (arg1.view.read (Elt F) X1) (arg2.view.read (Elt F) X2) (arg3.view.read (Elt F) X3) k.val c := by
  funext x
  unfold vT
  rw [View.readCov_eq_canon']
  refine (View.canon_apply_of_pieces _ _ (pieces8 arg1 arg2 arg3 arg7 X1 X2 X3 k).mem _ (cover8 arg1 arg2 arg3 arg7 X1 X2 X3 k _)).trans
    (congrArg _ ?_)
  have x1 : (x 1).val < 128 := (x 1).isLt
  refine (emb2 (n0 := 768) (n1 := 128) _ (128 * c) 0 128 128 rfl inb x).trans (ix2_ext rfl ?_)
  show (0 + (x 1).val) % 128 = (x 1).val
  omega

end Trip

end Cert.KernelIdeal.Val

end
-- ==== Proof.LoopOut.lean ====
/-
  The ten trips of the update kernel's lane loop together: the two result blocks read back after the loop are `outB` and
  `auxB` of the four operand blocks, whatever the buffers held before.
-/
module

public import proofs.«01_k».proof.Proof.Trip

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

section Trip
variable (arg1 : Memref sig .tc .vmem S192x1280 .i32) (harg1 : arg1.IsWhole) (arg2 : Memref sig .tc .vmem S8x1280 .i32) (harg2 : arg2.IsWhole)
  (arg3 : Memref sig .tc .vmem S1x7680x128 .f32) (harg3 : arg3.IsWhole) (arg4 : Memref sig .tc .vmem S1280x768 .i32) (harg4 : arg4.IsWhole)
  (arg5 : Memref sig .tc .vmem S776x1280 .i8) (harg5 : arg5.IsWhole) (arg6 : Memref sig .tc .vmem S8x1280 .f32) (harg6 : arg6.IsWhole)
  (arg7 : Memref sig .tc .vmem S768x128 .f32) (harg7 : arg7.IsWhole) (arg8 : Memref sig .tc .vmem S768x128 .f32) (harg8 : arg8.IsWhole)
  (X1 : BufTy.Contents (Elt F) arg1.view.ty) (X2 : BufTy.Contents (Elt F) arg2.view.ty)
  (X3 : BufTy.Contents (Elt F) arg3.view.ty) (X4 : BufTy.Contents (Elt F) arg4.view.ty)

local notation "b1" => View.read (Elt F) arg1.view X1
local notation "b2" => View.read (Elt F) arg2.view X2
local notation "b3" => View.read (Elt F) arg3.view X3
local notation "b4" => View.read (Elt F) arg4.view X4

section One
variable (k : Fin k0_t1_loop.trips)

/-- The codes of feature block `c` of one trip. -/
theorem code_eq (c : ℕ) (hc : c < 6) (inb) :
    codeV (loV (wnT arg1 arg2 arg3 arg7 X1 X2 X3 k)) (rngV (wnT arg1 arg2 arg3 arg7 X1 X2 X3 k)) (rld arg4 X4 k c)
        (vT arg1 arg2 arg3 arg7 arg8 X1 X2 X3 k c inb)
      = codeB b1 b2 b3 b4 k.val c := by
  have hw : ∀ j < 24, wnT arg1 arg2 arg3 arg7 X1 X2 X3 k j = wnB b1 b2 b3 k.val j :=
    fun j hj => wnT_eq arg1 arg2 arg3 arg7 X1 X2 X3 k j hj
  unfold codeB loB rngB
  rw [vT_eq, rld_eq arg4 X4 k c hc, loV_congr _ _ hw, rngV_congr _ _ hw]

theorem piece5 (c : ℕ) (hc : c < 6) (o : ℕ) (ho : o = 128 * c) (off : Fin 2 → ℕ) (hoff : off = ![o, 128 * k.val]) (inb) (inb')
    (pay : Vec F S128x128 .i8)
    (hp : pay = codeV (loV (wnT arg1 arg2 arg3 arg7 X1 X2 X3 k)) (rngV (wnT arg1 arg2 arg3 arg7 X1 X2 X3 k)) (rld arg4 X4 k c)
        (vT arg1 arg2 arg3 arg7 arg8 X1 X2 X3 k c inb')) (x : S128x128.Idx) :
    pay x = outB b1 b2 b3 b4 ((Rect.unit (s := S776x1280) off S128x128.size inb).emb x) := by
  subst ho
  have hk := k_lt k
  have x0 : (x 0).val < 128 := (x 0).isLt
  have x1 : (x 1).val < 128 := (x 1).isLt
  rw [hp, code_eq arg1 arg2 arg3 arg4 arg7 arg8 X1 X2 X3 X4 k c hc inb']
  refine Eq.trans ?_ (congrArg _ (emb2 (n0 := 776) (n1 := 1280) off (128 * c) (128 * k.val) 128 128 hoff inb x).symm)
  have e0 : (128 * c + (x 0).val) % 776 = 128 * c + (x 0).val := Nat.mod_eq_of_lt (by omega)
  have e1 : (128 * k.val + (x 1).val) % 1280 = 128 * k.val + (x 1).val := Nat.mod_eq_of_lt (by omega)
  unfold outB
  refine Eq.trans ?_ (if_pos (show (128 * c + (x 0).val) % 776 < 768 by omega)).symm
  show _ = codeB b1 b2 b3 b4 ((128 * k.val + (x 1).val) % 1280 / 128) ((128 * c + (x 0).val) % 776 / 128) _
  rw [show (128 * k.val + (x 1).val) % 1280 / 128 = k.val by omega, show (128 * c + (x 0).val) % 776 / 128 = c by omega]
  congr 1
  refine ix2_ext ?_ ?_
  · show (x 0).val = (128 * c + (x 0).val) % 776 % 128; omega
  · show (x 1).val = (128 * k.val + (x 1).val) % 1280 % 128; omega

theorem piece5t (off : Fin 2 → ℕ) (hoff : off = ![768, 128 * k.val]) (inb) (x : S8x128.Idx) :
    k0_pay129 x = outB b1 b2 b3 b4 ((Rect.unit (s := S776x1280) off S8x128.size inb).emb x) := by
  have hk := k_lt k
  have x0 : (x 0).val < 8 := (x 0).isLt
  have x1 : (x 1).val < 128 := (x 1).isLt
  refine Eq.trans ?_ (congrArg _ (emb2 (n0 := 776) (n1 := 1280) off 768 (128 * k.val) 8 128 hoff inb x).symm)
  have e0 : (768 + (x 0).val) % 776 = 768 + (x 0).val := Nat.mod_eq_of_lt (by omega)
  have e1 : (128 * k.val + (x 1).val) % 1280 = 128 * k.val + (x 1).val := Nat.mod_eq_of_lt (by omega)
  unfold outB
  refine Eq.trans ?_ (if_neg (show ¬ (768 + (x 0).val) % 776 < 768 by omega)).symm
  congr 1
  refine ix2_ext ?_ ?_
  · show (x 0).val = ((768 + (x 0).val) % 776 - 768) % 8; omega
  · show (x 1).val = (128 * k.val + (x 1).val) % 1280 % 128; omega

/-- A row of the second result. -/
theorem piece6 (r : ℕ) (hr : r < 3) (off : Fin 2 → ℕ) (hoff : off = ![r, 128 * k.val]) (inb) (pay : Vec F S1x128 .f32)
    (hp : pay = if r = 0 then nsB b1 b2 b3 k.val else if r = 1 then loB b1 b2 b3 k.val else stB b2 b3 k.val) (x : S1x128.Idx) :
    pay x = auxB b1 b2 b3 ((Rect.unit (s := S8x1280) off S1x128.size inb).emb x) := by
  have hk := k_lt k
  have x0 : (x 0).val < 1 := (x 0).isLt
  have x1 : (x 1).val < 128 := (x 1).isLt
  refine Eq.trans ?_ (congrArg _ (emb2 (n0 := 8) (n1 := 1280) off r (128 * k.val) 1 128 hoff inb x).symm)
  have e0 : (r + (x 0).val) % 8 = r := by omega
  have e1 : (128 * k.val + (x 1).val) % 1280 / 128 = k.val := by omega
  have ex : x = ValueIdx.ix2 0 (Fin.ofNat 128 ((128 * k.val + (x 1).val) % 1280)) := by
    refine ix2_ext ?_ ?_
    · show (x 0).val = 0; omega
    · show (x 1).val = (128 * k.val + (x 1).val) % 1280 % 128; omega
  subst hp
  unfold auxB
  show _ = if (r + (x 0).val) % 8 = 0 then nsB b1 b2 b3 ((128 * k.val + (x 1).val) % 1280 / 128) (ValueIdx.ix2 0 (Fin.ofNat 128 ((128 * k.val + (x 1).val) % 1280)))
    else if (r + (x 0).val) % 8 = 1 then loB b1 b2 b3 ((128 * k.val + (x 1).val) % 1280 / 128) (ValueIdx.ix2 0 (Fin.ofNat 128 ((128 * k.val + (x 1).val) % 1280)))
    else if (r + (x 0).val) % 8 = 2 then stB b2 b3 ((128 * k.val + (x 1).val) % 1280 / 128) (ValueIdx.ix2 0 (Fin.ofNat 128 ((128 * k.val + (x 1).val) % 1280)))
    else _
  rw [e0, e1, ← ex]
  match r, hr with
  | 0, _ => rfl
  | 1, _ => rfl
  | 2, _ => rfl
  | n + 3, h => exact absurd h (by omega)

theorem piece6t (off : Fin 2 → ℕ) (hoff : off = ![3, 128 * k.val]) (inb) (x : S5x128.Idx) :
    k0_pay1 (F := F) x = auxB b1 b2 b3 ((Rect.unit (s := S8x1280) off S5x128.size inb).emb x) := by
  have hk := k_lt k
  have x0 : (x 0).val < 5 := (x 0).isLt
  have x1 : (x 1).val < 128 := (x 1).isLt
  refine Eq.trans ?_ (congrArg _ (emb2 (n0 := 8) (n1 := 1280) off 3 (128 * k.val) 5 128 hoff inb x).symm)
  unfold auxB
  have e0 : (3 + (x 0).val) % 8 = 3 + (x 0).val := by omega
  refine Eq.trans ?_ (if_neg (show ¬ (3 + (x 0).val) % 8 = 0 by omega)).symm
  refine Eq.trans ?_ (if_neg (show ¬ (3 + (x 0).val) % 8 = 1 by omega)).symm
  refine Eq.trans ?_ (if_neg (show ¬ (3 + (x 0).val) % 8 = 2 by omega)).symm
  rfl

variable (𝒱 : Variants) (cc : Dev nD) (bd : Option 𝒱.V) (i : grid0.Coords)
  (G5 : BufTy.Contents (Elt F) arg5.view.ty) (G6 : BufTy.Contents (Elt F) arg6.view.ty)
  (G7 : BufTy.Contents (Elt F) arg7.view.ty) (G8 : BufTy.Contents (Elt F) arg8.view.ty)

set_option maxHeartbeats 1000000 in
/-- Every piece a trip stores into the first result is `outB`'s. -/
theorem pieces5 : View.PiecesOf (outB b1 b2 b3 b4)
    ((tripL_k0_t1 (F := F) 𝒱 cc bd i arg1 harg1 arg2 harg2 arg3 harg3 arg4 harg4 arg5 harg5 arg6 harg6 arg7 harg7 arg8 harg8 X1 X2 X3 X4 k
      G5 G6 G7 G8).1) := by
  unfold tripL_k0_t1 trip_k0_t1
  dsimp only
  have P := piece5 arg1 arg2 arg3 arg4 arg7 arg8 X1 X2 X3 X4 k
  refine ⟨?_, ?_, ?_, ?_, ?_, ?_, ?_, trivial⟩
  · exact piece5t arg1 arg2 arg3 arg4 X1 X2 X3 X4 k (k0_off39 k) (k0_off39_eq k) (k0_off39_inb k)
  · exact P 5 (by decide) 640 rfl (k0_off38 k) (k0_off38_eq k) (k0_off38_inb k) inb_S768x128_S128x128_640_0 _ rfl
  · exact P 4 (by decide) 512 rfl (k0_off36 k) (k0_off36_eq k) (k0_off36_inb k) inb_S768x128_S128x128_512_0 _ rfl
  · exact P 3 (by decide) 384 rfl (k0_off34 k) (k0_off34_eq k) (k0_off34_inb k) inb_S768x128_S128x128_384_0 _ rfl
  · exact P 2 (by decide) 256 rfl (k0_off32 k) (k0_off32_eq k) (k0_off32_inb k) inb_S768x128_S128x128_256_0 _ rfl
  · exact P 1 (by decide) 128 rfl (k0_off30 k) (k0_off30_eq k) (k0_off30_inb k) inb_S768x128_S128x128_128_0 _ rfl
  · exact P 0 (by decide) 0 rfl (k0_off28 k) (k0_off28_eq k) (k0_off28_inb k) inb_S768x128_S128x128_0_0 _ rfl

set_option maxHeartbeats 1000000 in
/-- Every piece a trip stores into the second result is `auxB`'s. -/
theorem pieces6 : View.PiecesOf (auxB b1 b2 b3)
    ((tripL_k0_t1 (F := F) 𝒱 cc bd i arg1 harg1 arg2 harg2 arg3 harg3 arg4 harg4 arg5 harg5 arg6 harg6 arg7 harg7 arg8 harg8 X1 X2 X3 X4 k
      G5 G6 G7 G8).2.1) := by
  unfold tripL_k0_t1 trip_k0_t1
  dsimp only
  have P := piece6 arg1 arg2 arg3 X1 X2 X3 k
  have hw : ∀ j < 24, wnT arg1 arg2 arg3 arg7 X1 X2 X3 k j = wnB b1 b2 b3 k.val j :=
    fun j hj => wnT_eq arg1 arg2 arg3 arg7 X1 X2 X3 k j hj
  refine ⟨?_, ?_, ?_, ?_, trivial⟩
  · exact piece6t arg1 arg2 arg3 X1 X2 X3 k (k0_off43 k) (k0_off43_eq k) (k0_off43_inb k)
  · exact P 2 (by decide) (k0_off42 k) (k0_off42_eq k) (k0_off42_inb k) _ ((r6_eq arg2 arg3 X2 X3 k).trans (stT_eq arg2 arg3 X2 X3 k))
  · exact P 1 (by decide) (k0_off41 k) (k0_off41_eq k) (k0_off41_inb k) _ ((r61_eq arg1 arg2 arg3 arg7 X1 X2 X3 k).trans (loV_congr _ _ hw))
  · refine P 0 (by decide) (k0_off40 k) (k0_off40_eq k) (k0_off40_inb k) _ ?_
    rw [if_pos rfl]
    unfold nsB rngB
    rw [← rngV_congr _ _ hw]
    rfl

/-- The pieces one trip stores into the first result cover its 128 lanes. -/
theorem cover5 (y : S776x1280.Idx) (hy : (y 1).val / 128 = k.val) :
    ∃ p ∈ (tripL_k0_t1 (F := F) 𝒱 cc bd i arg1 harg1 arg2 harg2 arg3 harg3 arg4 harg4 arg5 harg5 arg6 harg6 arg7 harg7 arg8 harg8 X1 X2 X3 X4 k
      G5 G6 G7 G8).1, y ∈ p.1.set := by
  unfold tripL_k0_t1 trip_k0_t1
  dsimp only
  have y0 : (y 0).val < 776 := (y 0).isLt
  have hl : 128 * k.val ≤ (y 1).val ∧ (y 1).val < 128 * k.val + 128 := by omega
  simp only [List.mem_cons, List.not_mem_nil, or_false, exists_eq_or_imp, exists_eq_left]
  by_cases h6 : (y 0).val ≥ 768
  · exact Or.inl (mem_rect2 (n0 := 776) (n1 := 1280) (k0_off39 k) 768 (128 * k.val) 8 128 (k0_off39_eq k) (k0_off39_inb k) y (by omega) hl)
  refine Or.inr ?_
  by_cases h5 : (y 0).val ≥ 640
  · exact Or.inl (mem_rect2 (n0 := 776) (n1 := 1280) (k0_off38 k) 640 (128 * k.val) 128 128 (k0_off38_eq k) (k0_off38_inb k) y (by omega) hl)
  refine Or.inr ?_
  by_cases h4 : (y 0).val ≥ 512
  · exact Or.inl (mem_rect2 (n0 := 776) (n1 := 1280) (k0_off36 k) 512 (128 * k.val) 128 128 (k0_off36_eq k) (k0_off36_inb k) y (by omega) hl)
  refine Or.inr ?_
  by_cases h3 : (y 0).val ≥ 384
  · exact Or.inl (mem_rect2 (n0 := 776) (n1 := 1280) (k0_off34 k) 384 (128 * k.val) 128 128 (k0_off34_eq k) (k0_off34_inb k) y (by omega) hl)
  refine Or.inr ?_
  by_cases h2 : (y 0).val ≥ 256
  · exact Or.inl (mem_rect2 (n0 := 776) (n1 := 1280) (k0_off32 k) 256 (128 * k.val) 128 128 (k0_off32_eq k) (k0_off32_inb k) y (by omega) hl)
  refine Or.inr ?_
  by_cases h1 : (y 0).val ≥ 128
  · exact Or.inl (mem_rect2 (n0 := 776) (n1 := 1280) (k0_off30 k) 128 (128 * k.val) 128 128 (k0_off30_eq k) (k0_off30_inb k) y (by omega) hl)
  refine Or.inr ?_
  exact mem_rect2 (n0 := 776) (n1 := 1280) (k0_off28 k) 0 (128 * k.val) 128 128 (k0_off28_eq k) (k0_off28_inb k) y (by omega) hl

/-- The pieces one trip stores into the second result cover its 128 lanes. -/
theorem cover6 (y : S8x1280.Idx) (hy : (y 1).val / 128 = k.val) :
    ∃ p ∈ (tripL_k0_t1 (F := F) 𝒱 cc bd i arg1 harg1 arg2 harg2 arg3 harg3 arg4 harg4 arg5 harg5 arg6 harg6 arg7 harg7 arg8 harg8 X1 X2 X3 X4 k
      G5 G6 G7 G8).2.1, y ∈ p.1.set := by
  unfold tripL_k0_t1 trip_k0_t1
  dsimp only
  have y0 : (y 0).val < 8 := (y 0).isLt
  have hl : 128 * k.val ≤ (y 1).val ∧ (y 1).val < 128 * k.val + 128 := by omega
  simp only [List.mem_cons, List.not_mem_nil, or_false, exists_eq_or_imp, exists_eq_left]
  by_cases h3 : (y 0).val ≥ 3
  · exact Or.inl (mem_rect2 (n0 := 8) (n1 := 1280) (k0_off43 k) 3 (128 * k.val) 5 128 (k0_off43_eq k) (k0_off43_inb k) y (by omega) hl)
  refine Or.inr ?_
  by_cases h2 : (y 0).val ≥ 2
  · exact Or.inl (mem_rect2 (n0 := 8) (n1 := 1280) (k0_off42 k) 2 (128 * k.val) 1 128 (k0_off42_eq k) (k0_off42_inb k) y (by omega) hl)
  refine Or.inr ?_
  by_cases h1 : (y 0).val ≥ 1
  · exact Or.inl (mem_rect2 (n0 := 8) (n1 := 1280) (k0_off41 k) 1 (128 * k.val) 1 128 (k0_off41_eq k) (k0_off41_inb k) y (by omega) hl)
  refine Or.inr ?_
  exact mem_rect2 (n0 := 8) (n1 := 1280) (k0_off40 k) 0 (128 * k.val) 1 128 (k0_off40_eq k) (k0_off40_inb k) y (by omega) hl

end One

variable (𝒱 : Variants) (cc : Dev nD) (bd : Option 𝒱.V) (i : grid0.Coords)
  (G5 : BufTy.Contents (Elt F) arg5.view.ty) (G6 : BufTy.Contents (Elt F) arg6.view.ty)
  (G7 : BufTy.Contents (Elt F) arg7.view.ty) (G8 : BufTy.Contents (Elt F) arg8.view.ty)

theorem trips_eq : k0_t1_loop.trips = 10 := by decide

/-- The pieces of the first `n` trips: all blocks of `outB` and `auxB`, covering the first `128 n` lanes. -/
theorem pb_ok (n : ℕ) (hn : n ≤ 10) :
    ((∀ p ∈ (pb_k0_t1 (F := F) 𝒱 cc bd i arg1 harg1 arg2 harg2 arg3 harg3 arg4 harg4 arg5 harg5 arg6 harg6 arg7 harg7 arg8 harg8 X1 X2 X3 X4
        G5 G6 G7 G8 n).1, ∀ x : p.1.shape.Idx, p.2 x = outB b1 b2 b3 b4 (p.1.emb x))
      ∧ ∀ y : S776x1280.Idx, (y 1).val < 128 * n → ∃ p ∈ (pb_k0_t1 (F := F) 𝒱 cc bd i arg1 harg1 arg2 harg2 arg3 harg3 arg4 harg4 arg5 harg5
        arg6 harg6 arg7 harg7 arg8 harg8 X1 X2 X3 X4 G5 G6 G7 G8 n).1, y ∈ p.1.set)
    ∧ ((∀ p ∈ (pb_k0_t1 (F := F) 𝒱 cc bd i arg1 harg1 arg2 harg2 arg3 harg3 arg4 harg4 arg5 harg5 arg6 harg6 arg7 harg7 arg8 harg8 X1 X2 X3 X4
        G5 G6 G7 G8 n).2.1, ∀ x : p.1.shape.Idx, p.2 x = auxB b1 b2 b3 (p.1.emb x))
      ∧ ∀ y : S8x1280.Idx, (y 1).val < 128 * n → ∃ p ∈ (pb_k0_t1 (F := F) 𝒱 cc bd i arg1 harg1 arg2 harg2 arg3 harg3 arg4 harg4 arg5 harg5
        arg6 harg6 arg7 harg7 arg8 harg8 X1 X2 X3 X4 G5 G6 G7 G8 n).2.1, y ∈ p.1.set) := by
  induction n with
  | zero =>
    rw [pb_k0_t1.eq_1]
    refine ⟨⟨fun p hp => absurd hp List.not_mem_nil, fun y hy => absurd hy (by omega)⟩,
      ⟨fun p hp => absurd hp List.not_mem_nil, fun y hy => absurd hy (by omega)⟩⟩
  | succ n ih =>
    obtain ⟨⟨h5, c5⟩, ⟨h6, c6⟩⟩ := ih (by omega)
    have hlt : n < k0_t1_loop.trips := by rw [trips_eq]; omega
    have e := pb_k0_t1_succ (F := F) 𝒱 cc bd i arg1 harg1 arg2 harg2 arg3 harg3 arg4 harg4 arg5 harg5 arg6 harg6 arg7 harg7 arg8 harg8 X1 X2 X3 X4
        G5 G6 G7 G8 ⟨n, hlt⟩
    dsimp only at e
    rw [e]
    refine ⟨⟨fun p hp => ?_, fun y hy => ?_⟩, ⟨fun p hp => ?_, fun y hy => ?_⟩⟩
    · rcases List.mem_append.mp hp with hp | hp
      · exact (pieces5 arg1 harg1 arg2 harg2 arg3 harg3 arg4 harg4 arg5 harg5 arg6 harg6 arg7 harg7 arg8 harg8 X1 X2 X3 X4 ⟨n, hlt⟩ 𝒱 cc bd i _ _ _ _).mem p hp
      · exact h5 p hp
    · by_cases hc : (y 1).val < 128 * n
      · obtain ⟨p, hp, hm⟩ := c5 y hc
        exact ⟨p, List.mem_append_right _ hp, hm⟩
      · obtain ⟨p, hp, hm⟩ := cover5 arg1 harg1 arg2 harg2 arg3 harg3 arg4 harg4 arg5 harg5 arg6 harg6 arg7 harg7 arg8 harg8 X1 X2 X3 X4 ⟨n, hlt⟩ 𝒱 cc bd i
          _ _ _ _ y (by show (y 1).val / 128 = n; omega)
        exact ⟨p, List.mem_append_left _ hp, hm⟩
    · rcases List.mem_append.mp hp with hp | hp
      · exact (pieces6 arg1 harg1 arg2 harg2 arg3 harg3 arg4 harg4 arg5 harg5 arg6 harg6 arg7 harg7 arg8 harg8 X1 X2 X3 X4 ⟨n, hlt⟩ 𝒱 cc bd i _ _ _ _).mem p hp
      · exact h6 p hp
    · by_cases hc : (y 1).val < 128 * n
      · obtain ⟨p, hp, hm⟩ := c6 y hc
        exact ⟨p, List.mem_append_right _ hp, hm⟩
      · obtain ⟨p, hp, hm⟩ := cover6 arg1 harg1 arg2 harg2 arg3 harg3 arg4 harg4 arg5 harg5 arg6 harg6 arg7 harg7 arg8 harg8 X1 X2 X3 X4 ⟨n, hlt⟩ 𝒱 cc bd i
          _ _ _ _ y (by show (y 1).val / 128 = n; omega)
        exact ⟨p, List.mem_append_left _ hp, hm⟩

/-- The first result block after the loop. -/
theorem out_eq :
    arg5.view.read (Elt F) (arg5.view.writes (Elt F) G5 (pb_k0_t1 (F := F) 𝒱 cc bd i arg1 harg1 arg2 harg2 arg3 harg3 arg4 harg4 arg5 harg5
        arg6 harg6 arg7 harg7 arg8 harg8 X1 X2 X3 X4 G5 G6 G7 G8 k0_t1_loop.trips).1) = outB b1 b2 b3 b4 := by
  rw [trips_eq]
  obtain ⟨⟨h5, c5⟩, -⟩ := pb_ok arg1 harg1 arg2 harg2 arg3 harg3 arg4 harg4 arg5 harg5 arg6 harg6 arg7 harg7 arg8 harg8 X1 X2 X3 X4 𝒱 cc bd i G5 G6 G7 G8 10 le_rfl
  funext y
  exact View.read_writes_apply_of_pieces _ _ _ _ h5 y (c5 y (by have : (y 1).val < 1280 := (y 1).isLt; omega))

/-- The second result block after the loop. -/
theorem aux_eq :
    arg6.view.read (Elt F) (arg6.view.writes (Elt F) G6 (pb_k0_t1 (F := F) 𝒱 cc bd i arg1 harg1 arg2 harg2 arg3 harg3 arg4 harg4 arg5 harg5
        arg6 harg6 arg7 harg7 arg8 harg8 X1 X2 X3 X4 G5 G6 G7 G8 k0_t1_loop.trips).2.1) = auxB b1 b2 b3 := by
  rw [trips_eq]
  obtain ⟨-, ⟨h6, c6⟩⟩ := pb_ok arg1 harg1 arg2 harg2 arg3 harg3 arg4 harg4 arg5 harg5 arg6 harg6 arg7 harg7 arg8 harg8 X1 X2 X3 X4 𝒱 cc bd i G5 G6 G7 G8 10 le_rfl
  funext y
  exact View.read_writes_apply_of_pieces _ _ _ _ h6 y (c6 y (by have : (y 1).val < 1280 := (y 1).isLt; omega))

end Trip

end Cert.KernelIdeal.Val

end
-- ==== Proof.KRun.lean ====
/-
  The update kernel's run with its values: the body at a generic grid point leaves `outB` and `auxB` of the four operand
  blocks in the two result buffers, and the launch of the pipeline over it. The two word windows stage one array, each at
  its share of it.
-/
module

public import proofs.«01_k».proof.Proof.LoopOut
public import proofs.«01_k».proof.Proof.Gen.KernelIdeal.Frame

@[expose] public section

set_option maxRecDepth 16384

noncomputable section

namespace Cert.KernelIdeal.Hand

open Cert.KernelIdeal Cert.KernelIdeal.Gen Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class invariant, conjunct by conjunct: both scratch buffers owned at some contents, the generator register at
    some state. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- The body's triple at any point: the four operands' staging memrefs are handed back as found, the two results' at
    `outB` and `auxB` of them, the two scratch buffers at some contents. -/
theorem kernelRun (c : Dev nD) (i : grid0.Coords)
    (arg1 : Memref sig .tc .vmem S192x1280 .i32) (harg1 : arg1.IsWhole) (arg2 : Memref sig .tc .vmem S8x1280 .i32) (harg2 : arg2.IsWhole)
    (arg3 : Memref sig .tc .vmem S1x7680x128 .f32) (harg3 : arg3.IsWhole) (arg4 : Memref sig .tc .vmem S1280x768 .i32) (harg4 : arg4.IsWhole)
    (arg5 : Memref sig .tc .vmem S776x1280 .i8) (harg5 : arg5.IsWhole) (arg6 : Memref sig .tc .vmem S8x1280 .f32) (harg6 : arg6.IsWhole)
    (arg7 : Memref sig .tc .vmem S768x128 .f32) (harg7 : arg7.IsWhole) (arg8 : Memref sig .tc .vmem S768x128 .f32) (harg8 : arg8.IsWhole)
    (X1 : S192x1280.Idx → Elt F .i32) (X2 : S8x1280.Idx → Elt F .i32) (X3 : S1x7680x128.Idx → Elt F .f32) (X4 : S1280x768.Idx → Elt F .i32)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare X1 ∗ owns (c : Thread nD τ) arg2 fullShare X2
            ∗ owns (c : Thread nD τ) arg3 fullShare X3 ∗ owns (c : Thread nD τ) arg4 fullShare X4
            ∗ owns (c : Thread nD τ) arg5 fullShare (outB X1 X2 X3 X4) ∗ owns (c : Thread nD τ) arg6 fullShare (auxB X1 X2 X3)
            ∗ (∃ d, owns (c : Thread nD τ) arg7 fullShare d) ∗ (∃ d, owns (c : Thread nD τ) arg8 fullShare d)) -∗ K ⟨⟩))
      ⊢ wp frame (wpE (defs₀ (F := F)) Variants.none c none) Set.univ
          (cc0_update i arg1 harg1 arg2 harg2 arg3 harg3 arg4 harg4 arg5 harg5 arg6 harg6 arg7 harg7 arg8 harg8) K := by
  simp only [cc0_update_eq_skeleton]; unfold cc0_update_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩,
    ⟨%d7, %f7, -, H7⟩, ⟨%d8, %f8, -, H8⟩, Hk⟩
  sl_exec
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]
  · iexists _; isplitr; swap; (· iexact H5)
    ipureintro
    subst e1 e2 e3 e4
    exact out_eq arg1 harg1 arg2 harg2 arg3 harg3 arg4 harg4 arg5 harg5 arg6 harg6 arg7 harg7 arg8 harg8 _ _ _ _ _ _ _ _ _ _ _ _
  isplitl [H6]
  · iexists _; isplitr; swap; (· iexact H6)
    ipureintro
    subst e1 e2 e3 e4
    exact aux_eq arg1 harg1 arg2 harg2 arg3 harg3 arg4 harg4 arg5 harg5 arg6 harg6 arg7 harg7 arg8 harg8 _ _ _ _ _ _ _ _ _ _ _ _
  isplitl [H7]; · iexists _, _; isplitr; swap; (· iexact H7); ipureintro; rfl
  iexists _, _; isplitr; swap; (· iexact H8); ipureintro; rfl

/-! ## The proof data and the body obligation -/

/-- The proof data on core `c`: arrays as the region finds them; each operand's buffer at its block after the body, the
    results' at what the body writes; the class invariant; nothing owed; each operand's share of its array. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => outB (X0_0 m c t) (iblk m c 1 t) (X0_2 m c t) (iblk m c 3 t)
    | ⟨5, _⟩ => auxB (X0_0 m c t) (iblk m c 1 t) (X0_2 m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = outB (X0_0 m c t) (iblk m c 1 t) (X0_2 m c t) (iblk m c 3 t) := by dsimp only [dats]
theorem after0_5 (c : Dev nD) (t : Fin cfg0.N) : (dats m 0 c).after 5 t = auxB (X0_0 m c t) (iblk m c 1 t) (X0_2 m c t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, by `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5]
  iintro ⟨⟨⟨H6, H7⟩, Hg⟩, Ho, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ _ _ _ _ (X0_0 m c t) (iblk m c 1 t) (X0_2 m c t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  iintro ⟨H0, H1, H2, H3, H4, H5, H6, H7⟩
  isplitl [H6 H7 Hg]
  · isplitl [H6 H7]
    · isplitl [H6]; · iexact H6
      iexact H7
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

-- the launch theorem's implicit arguments are found by unifying its conclusion with this statement, which unfolds plain
-- definitions in a metavariable's type
set_option backward.isDefEq.respectTransparency.types false in
set_option maxHeartbeats 4000000 in
/-- From any memory with zero counters every weakly fair execution terminates, every operand array is as launched and
    every semaphore counter is zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every execution terminates, the three arguments end as launched, every semaphore counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine Idealize.ShloMosaic.θ_run_and ?_ ?_
  · exact frame_of m ρ (dats m) (A_eq m) ((θ_run defs _ _).mono (fun r h => h.1) (run_main m ρ))
  · exact (θ_run defs _ _).mono (fun r h => h.2) (run_main m ρ)

end Cert.KernelIdeal.Hand

end
-- ==== Proof.Spec.lean ====
module

public import Idealize.ShloMosaic.PureOps.Ideal.Laws
public import Idealize.ShloMosaic.Lib.ValueIdxCoords

@[expose] public section

noncomputable section

/-! # One slot of the update, over the extended reals

A slot is a column: 192 words of packed codes, three words of parameters, 768 gradients and 768 random words. -/

namespace Cert.Upd

open Idealize.ShloMosaic

/-- Byte `b` of a word, as a word. -/
def byteOf (w : BitVec 32) (b : ℕ) : BitVec 32 := (w >>> (8 * b)) &&& 255#32

/-- Feature `d`'s old code as a number: byte `d % 4` of word `d / 4`. -/
def code (wd : Fin 192 → BitVec 32) (d : Fin 768) : EReal :=
  (((byteOf (wd ⟨d.val / 4, by have := d.isLt; omega⟩) (d.val % 4)).toNat : ℝ) : EReal)

/-- The new optimizer state: the old one plus the mean of the squared gradients. -/
def state (mom : EReal) (g : Fin 768 → EReal) : EReal :=
  mom + Ideal.div (∑ d, g d * g d) (Ideal.ofBits .f32 0x44400000#32)

/-- The step size from the new state. -/
def step (st : EReal) : EReal :=
  Ideal.div (Ideal.ofBits .f32 0x3CA3D70A#32) (Ideal.sqrt st + Ideal.ofBits .f32 0x322BCC77#32)

/-- The updated weights. -/
def weight (wd : Fin 192 → BitVec 32) (sc bi mu : EReal) (g : Fin 768 → EReal) (d : Fin 768) : EReal :=
  code wd d * sc + bi - mu * g d

/-- The row's minimum, -/
def lo (w : Fin 768 → EReal) : EReal := (Finset.univ : Finset (Fin 768)).fold min (Ideal.ofBits .f32 0x7F800000#32) w
/-- its maximum, -/
def hi (w : Fin 768 → EReal) : EReal := (Finset.univ : Finset (Fin 768)).fold max (Ideal.ofBits .f32 0xFF800000#32) w
/-- its range, -/
def rng (w : Fin 768 → EReal) : EReal := hi w - lo w
/-- and the new scale. -/
def scale (w : Fin 768 → EReal) : EReal := Ideal.div (rng w) (Ideal.ofBits .f32 0x437F0000#32)

/-- A weight requantised with the random word `r`. -/
def requant (l rg : EReal) (r : BitVec 32) (w : EReal) : BitVec 8 :=
  (Ideal.fptosi 32 (min (Ideal.ofBits .f32 0x437F0000#32) (max (Ideal.ofBits .f32 0x00000000#32)
    (Ideal.liftRound Int.floor
      ((w - l) * Ideal.div (Ideal.ofBits .f32 0x437F0000#32) (rg + Ideal.ofBits .f32 0x322BCC77#32)
        + (((r >>> 8).toNat : ℝ) : EReal) * Ideal.ofBits .f32 0x33800000#32))))).setWidth 8

section Args
variable (W : (⟨2, ![200, 81920]⟩ : Shape).Idx → BitVec 32) (G : (⟨3, ![32, 15368, 128]⟩ : Shape).Idx → EReal)
  (R : (⟨2, ![81920, 768]⟩ : Shape).Idx → BitVec 32) (s : Fin 81920)

/-- Slot `s`'s words of codes, -/
def words (w : Fin 192) : BitVec 32 := W (ValueIdx.ix2 (⟨w.val, by omega⟩ : Fin 200) s)
/-- its parameter words read as floats: scale, bias, state, -/
def param (r : Fin 8) : EReal := Ideal.ofBits .f32 (W (ValueIdx.ix2 (⟨192 + r.val, by omega⟩ : Fin 200) s))
/-- its gradients, -/
def grad (d : Fin 768) : EReal :=
  G (ValueIdx.ix3 (⟨s.val / 2560, by have := s.isLt; omega⟩ : Fin 32) (⟨6 * (s.val % 2560) + d.val / 128, by have := d.isLt; omega⟩ : Fin 15368)
    (⟨d.val % 128, Nat.mod_lt _ (by decide)⟩ : Fin 128))
/-- and its new state, -/
def slotState : EReal := state (param W s 2) (grad G s)
/-- updated weights -/
def slotWeight : Fin 768 → EReal := weight (words W s) (param W s 0) (param W s 1) (step (slotState W G s)) (grad G s)
/-- and codes. -/
def slotCode (d : Fin 768) : BitVec 8 :=
  requant (lo (slotWeight W G s)) (rng (slotWeight W G s)) (R (ValueIdx.ix2 s d)) (slotWeight W G s d)

end Args

/-- The bytes written: 768 rows of codes, then eight rows of zeros. -/
def rows (W : (⟨2, ![200, 81920]⟩ : Shape).Idx → BitVec 32) (G : (⟨3, ![32, 15368, 128]⟩ : Shape).Idx → EReal)
    (R : (⟨2, ![81920, 768]⟩ : Shape).Idx → BitVec 32) (y : (⟨2, ![776, 81920]⟩ : Shape).Idx) : BitVec 8 :=
  if h : (y 0).val < 768 then slotCode W G R (y 1) ⟨(y 0).val, h⟩ else 0#8

/-- The floats written: new scale, new bias and new state, then five rows of zeros. -/
def aux (W : (⟨2, ![200, 81920]⟩ : Shape).Idx → BitVec 32) (G : (⟨3, ![32, 15368, 128]⟩ : Shape).Idx → EReal)
    (y : (⟨2, ![8, 81920]⟩ : Shape).Idx) : EReal :=
  if (y 0).val = 0 then scale (slotWeight W G (y 1))
  else if (y 0).val = 1 then lo (slotWeight W G (y 1))
  else if (y 0).val = 2 then slotState W G (y 1)
  else Ideal.ofBits .f32 0x00000000#32

/-! The four results, a row to a slot. -/

/-- The row bytes: 768 codes, then eight zeros, -/
def rowBytes (W : (⟨2, ![200, 81920]⟩ : Shape).Idx → BitVec 32) (G : (⟨3, ![32, 15368, 128]⟩ : Shape).Idx → EReal)
    (R : (⟨2, ![81920, 768]⟩ : Shape).Idx → BitVec 32) (y : (⟨2, ![81920, 776]⟩ : Shape).Idx) : BitVec 8 :=
  rows W G R (ValueIdx.ix2 (n0 := 776) (n1 := 81920) (y 1) (y 0))
/-- the new scales, -/
def newScale (W : (⟨2, ![200, 81920]⟩ : Shape).Idx → BitVec 32) (G : (⟨3, ![32, 15368, 128]⟩ : Shape).Idx → EReal)
    (y : (⟨1, ![81920]⟩ : Shape).Idx) : EReal := scale (slotWeight W G (y 0))
/-- the new biases -/
def newBias (W : (⟨2, ![200, 81920]⟩ : Shape).Idx → BitVec 32) (G : (⟨3, ![32, 15368, 128]⟩ : Shape).Idx → EReal)
    (y : (⟨1, ![81920]⟩ : Shape).Idx) : EReal := lo (slotWeight W G (y 0))
/-- and the new states. -/
def newState (W : (⟨2, ![200, 81920]⟩ : Shape).Idx → BitVec 32) (G : (⟨3, ![32, 15368, 128]⟩ : Shape).Idx → EReal)
    (y : (⟨1, ![81920]⟩ : Shape).Idx) : EReal := slotState W G (y 0)

/-- A sum over 768 features, taken in eight interleaved parts over six blocks of sixteen rows of eight. -/
theorem sum_blocks (f : Fin 768 → EReal) :
    ∑ a : Fin 8, ∑ c : Fin 6, ∑ b : Fin 16, f ⟨128 * c.val + 8 * b.val + a.val, by omega⟩ = ∑ d, f d := by
  have hinj : Function.Injective (fun p : Fin 8 × Fin 6 × Fin 16 =>
      (⟨128 * p.2.1.val + 8 * p.2.2.val + p.1.val, by omega⟩ : Fin 768)) := by
    rintro ⟨a, c, b⟩ ⟨a', c', b'⟩ h
    have h' : 128 * c.val + 8 * b.val + a.val = 128 * c'.val + 8 * b'.val + a'.val := congrArg Fin.val h
    have ea : a = a' := Fin.ext (by omega)
    have ec : c = c' := Fin.ext (by omega)
    have eb : b = b' := Fin.ext (by omega)
    rw [ea, ec, eb]
  have hbij := (Fintype.bijective_iff_injective_and_card _).mpr ⟨hinj, by simp⟩
  rw [← hbij.sum_comp f, Fintype.sum_prod_type]
  refine Finset.sum_congr rfl fun a _ => ?_
  rw [Fintype.sum_prod_type]

/-- A lower bound of the row's minimum. -/
theorem le_lo_iff (w : Fin 768 → EReal) (x : EReal) :
    x ≤ lo w ↔ x ≤ Ideal.ofBits .f32 0x7F800000#32 ∧ ∀ d, x ≤ w d := by
  unfold lo; rw [Finset.le_fold_min]; simp
/-- An upper bound of the row's maximum. -/
theorem hi_le_iff (w : Fin 768 → EReal) (x : EReal) :
    hi w ≤ x ↔ Ideal.ofBits .f32 0xFF800000#32 ≤ x ∧ ∀ d, w d ≤ x := by
  unfold hi; rw [Finset.fold_max_le]; simp

/-- A bit of a byte taken from a word by shift and mask. -/
theorem byteOf_getLsbD (w : BitVec 32) (b i : ℕ) (hi : i < 32) :
    (byteOf w b).getLsbD i = (decide (i < 8) && w.getLsbD (8 * b + i)) := by
  have h255 : (255#32 : BitVec 32).getLsbD i = decide (i < 8) := by
    interval_cases i <;> rfl
  unfold byteOf
  rw [BitVec.getLsbD_and, BitVec.getLsbD_ushiftRight, h255, Bool.and_comm]

/-- A byte is the same number signed or unsigned. -/
theorem byteOf_toInt (w : BitVec 32) (b : ℕ) : (byteOf w b).toInt = ((byteOf w b).toNat : ℤ) := by
  have h : (byteOf w b).toNat < 256 := by
    unfold byteOf
    rw [BitVec.toNat_and]
    exact Nat.lt_of_le_of_lt Nat.and_le_right (by decide)
  rw [BitVec.toInt_eq_toNat_of_lt (by omega)]

/-- A word shifted by eight is the same number signed or unsigned. -/
theorem shift8_toInt (w : BitVec 32) : (w >>> 8).toInt = ((w >>> 8).toNat : ℤ) := by
  have h : (w >>> 8).toNat < 2 ^ 24 := by
    rw [BitVec.toNat_ushiftRight, Nat.shiftRight_eq_div_pow]
    have := w.isLt
    omega
  rw [BitVec.toInt_eq_toNat_of_lt (by omega)]

end Cert.Upd

end
-- ==== Proof.KVal.lean ====
module

public import proofs.«01_k».proof.Proof.Blocks
public import proofs.«01_k».proof.Proof.Spec
public import Idealize.ShloMosaic.Lib.Pipeline.Value
public import Idealize.ShloMosaic.Lib.BitcastPair

@[expose] public section

set_option maxRecDepth 16384

noncomputable section

/-! # The kernel's blocks at an index, over the extended reals -/

namespace Cert.KernelIdeal.Val

open Cert.KernelIdeal Cert.KernelIdeal.Gen
open Idealize.ShloMosaic

/-- A transposed gradient block at feature row `a`, slot `l`. -/
theorem gtV_apply (g : Vec Ideal S1x128x128 .f32) (a l : Fin 128) :
    gtV g (ValueIdx.ix2 a l) = g (ValueIdx.ix3 0 l a) := by
  unfold gtV k0_pay2
  rw [transpose_apply [1, 0] _ transposes_S128x128_p1_0_S128x128 (ValueIdx.ix2 a l) (ValueIdx.ix2 l a) (fun b => match b with
    | ⟨0, _⟩ => rfl
    | ⟨1, _⟩ => rfl)]
  exact shapeCast_apply g shapeCasts_S1x128x128_S128x128 (ValueIdx.ix2 l a) (ValueIdx.ix3 0 l a)
    (by rewrite [Shape.rowMajor_val_three, Shape.rowMajor_val_two]; show (0 * 128 + l.val) * 128 + a.val = l.val * 128 + a.val; omega)

/-- A partial sum of squares of one transposed block. -/
theorem sqV_apply (g : Vec Ideal S1x128x128 .f32) (a : Fin 8) (l : Fin 128) :
    sqV g (ValueIdx.ix2 a l) = ∑ b : Fin 16, (g (ValueIdx.ix3 0 l ⟨8 * b.val + a.val, by omega⟩) * g (ValueIdx.ix3 0 l ⟨8 * b.val + a.val, by omega⟩) : EReal) := by
  unfold sqV
  refine (Ideal.multiReduction_add_single _ _ _ _ _ _).trans ?_
  refine Finset.sum_congr rfl fun b _ => ?_
  rw [shapeCast_apply _ shapeCasts_S128x128_S16x8x128 _ (ValueIdx.ix2 (⟨8 * b.val + a.val, by have : b.val < 16 := b.isLt; omega⟩ : Fin 128) l)
    (by rewrite [Shape.rowMajor_val_three, Shape.rowMajor_val_two]; show (8 * b.val + a.val) * 128 + l.val = (b.val * 8 + a.val) * 128 + l.val; omega)]
  show (gtV g _ * gtV g _ : EReal) = _
  rw [gtV_apply]

/-- The partial sums after `n` blocks. -/
theorem accC_apply (g : ℕ → Vec Ideal S1x128x128 .f32) (n : ℕ) (y : S8x128.Idx) :
    accC g n y = ∑ c : Fin n, (sqV (g c.val) y : EReal) := by
  induction n with
  | zero => exact Ideal.ofBits_zero_f32
  | succ n ih => rw [Fin.sum_univ_castSucc]; show (accC g n y + sqV (g n) y : EReal) = _; rw [ih]; rfl

section Block
variable (B1 : S192x1280.Idx → Elt Ideal .i32) (B2 : S8x1280.Idx → Elt Ideal .i32)
  (B3 : S1x7680x128.Idx → Elt Ideal .f32) (B4 : S1280x768.Idx → Elt Ideal .i32) (k : ℕ) (l : Fin 128)

/-- The words of a slot of lane block `k`, -/
def wdK (w : Fin 192) : BitVec 32 := B1 (ValueIdx.ix2 w (Fin.ofNat 1280 (128 * k + l.val)))
/-- its parameters, -/
def qK (r : Fin 8) : EReal := FloatOps.ofBits (F := Ideal) .f32 (B2 (ValueIdx.ix2 r (Fin.ofNat 1280 (128 * k + l.val))))
/-- its gradients, -/
def gK (d : Fin 768) : EReal := B3 (ValueIdx.ix3 0 (Fin.ofNat 7680 (768 * k + d.val / 128 + 6 * l.val)) (Fin.ofNat 128 d.val))
/-- and its random words. -/
def rK (d : Fin 768) : BitVec 32 := B4 (ValueIdx.ix2 (Fin.ofNat 1280 (128 * k + l.val)) (Fin.ofNat 768 d.val))

theorem gtB_apply (d : Fin 768) : gtB B3 k (ValueIdx.ix2 d l) = gK B3 k l d := by
  unfold gtB
  exact (gtV_apply _ _ _)

/-- The new state of a slot. -/
theorem stB_apply : stB B2 B3 k (ValueIdx.ix2 0 l) = Upd.state (qK B2 k l 2) (gK B3 k l) := by
  unfold stB stV Upd.state
  refine congrArg₂ (fun a b : EReal => a + b) ?_ ?_
  · rw [extractStridedSlice_apply _ _ _ _ (ValueIdx.ix2 2 l) (fun a => match a with
      | ⟨0, _⟩ => rfl
      | ⟨1, _⟩ => (Nat.zero_add _).symm)]
    rfl
  · refine congrArg₂ (fun a b : EReal => Ideal.div a b) ?_ rfl
    rw [shapeCast_apply _ _ _ (ValueIdx.ix1 l) (by rewrite [Shape.rowMajor_val_two, Shape.rowMajor_val_one]; show l.val = 0 * 128 + l.val; omega)]
    refine (Ideal.multiReduction_add_single _ _ _ _ _ _).trans ?_
    rw [← Upd.sum_blocks]
    refine Finset.sum_congr rfl fun a _ => ?_
    rw [accC_apply]
    refine Finset.sum_congr rfl fun c _ => ?_
    refine (congrArg (sqV _) (ValueIdx.eq_ix2 (n0 := 8) (n1 := 128) _)).trans ((sqV_apply _ _ _).trans ?_)
    refine Finset.sum_congr rfl fun b _ => ?_
    have e : gB B3 k c.val (ValueIdx.ix3 0 l ⟨8 * b.val + a.val, by have : a.val < 8 := a.isLt; omega⟩)
        = gK B3 k l ⟨128 * c.val + 8 * b.val + a.val, by have : a.val < 8 := a.isLt; omega⟩ := by
      have ha : a.val < 8 := a.isLt
      unfold gB gK
      refine congrArg B3 (funext fun t => Fin.ext ?_)
      match t with
      | ⟨0, _⟩ => rfl
      | ⟨1, _⟩ =>
        show (768 * k + c.val + 6 * l.val) % 7680 = (768 * k + (128 * c.val + 8 * b.val + a.val) / 128 + 6 * l.val) % 7680
        rw [show (128 * c.val + 8 * b.val + a.val) / 128 = c.val by omega]
      | ⟨2, _⟩ => show 8 * b.val + a.val = (128 * c.val + 8 * b.val + a.val) % 128; omega
    exact congrArg₂ (fun x y : EReal => x * y) e e

/-- The step size of a slot. -/
theorem muB_apply : muB B2 B3 k (ValueIdx.ix2 0 l) = Upd.step (Upd.state (qK B2 k l 2) (gK B3 k l)) := by
  rw [← stB_apply]; rfl

theorem scB_apply : scB B2 k (ValueIdx.ix2 0 l) = qK B2 k l 0 := by
  unfold scB
  rw [extractStridedSlice_apply _ _ _ _ (ValueIdx.ix2 0 l) (fun a => match a with
      | ⟨0, _⟩ => rfl
      | ⟨1, _⟩ => (Nat.zero_add _).symm)]
  rfl
theorem biB_apply : biB B2 k (ValueIdx.ix2 0 l) = qK B2 k l 1 := by
  unfold biB
  rw [extractStridedSlice_apply _ _ _ _ (ValueIdx.ix2 1 l) (fun a => match a with
      | ⟨0, _⟩ => rfl
      | ⟨1, _⟩ => (Nat.zero_add _).symm)]
  rfl

/-- A row vector broadcast over rows. -/
theorem bcast_row (n : ℕ) (x : FVec Ideal S1x128 .f32) (h : S1x128.Broadcasts ⟨2, ![n, 128]⟩) (a : Fin n) :
    broadcastTo ⟨2, ![n, 128]⟩ x h (ValueIdx.ix2 a l) = x (ValueIdx.ix2 0 l) :=
  broadcastTo_apply x h _ _ (fun t => match t with
    | ⟨0, _⟩ => rfl
    | ⟨1, _⟩ => rfl)

/-- A byte of eight rows of words, read as bytes: byte row `a` is byte `a % 4` of word row `a / 4`. -/
theorem byte_apply (w : Vec Ideal S8x128 .i32) (a : Fin 32) :
    ((bitcast S32x128 8 w bitcasts_S8x128_w32_S32x128_w8 (ValueIdx.ix2 a l) : BitVec 8).setWidth 32 : BitVec 32)
      = Upd.byteOf (w (ValueIdx.ix2 (⟨a.val / 4, by omega⟩ : Fin 8) l)) (a.val % 4) := by
  apply BitVec.eq_of_getLsbD_eq
  intro i hi
  rw [Upd.byteOf_getLsbD _ _ _ hi, BitVec.getLsbD_setWidth]
  by_cases h8 : i < 8
  · rw [bitcast_getLsbD w bitcasts_S8x128_w32_S32x128_w8 _ i h8 (by decide)]
    have hrow : S32x128.row (ValueIdx.ix2 a l) = a.val := rfl
    have e1 : (S32x128.row (ValueIdx.ix2 a l) * 8 + i) / 32 = a.val / 4 := by rw [hrow]; omega
    have e2 : (S32x128.row (ValueIdx.ix2 a l) * 8 + i) % 32 = 8 * (a.val % 4) + i := by rw [hrow]; omega
    rw [e2]
    simp only [h8, hi, decide_true, Bool.true_and]
    congr 2
    funext c
    match c with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))
  · simp [h8]
    exact fun _ => BitVec.getLsbD_of_ge _ _ (by omega)

/-- Thirty-two rows of updated weights at a row. -/
theorem wnB_apply (j : ℕ) (hj : j < 24) (a : Fin 32) :
    wnB B1 B2 B3 k j (ValueIdx.ix2 a l)
      = Upd.weight (wdK B1 k l) (qK B2 k l 0) (qK B2 k l 1) (Upd.step (Upd.state (qK B2 k l 2) (gK B3 k l))) (gK B3 k l)
          ⟨32 * j + a.val, by omega⟩ := by
  have ha := a.isLt
  unfold wnB wnV k0_pay113 Upd.weight
  refine congrArg₂ (fun a b : EReal => a - b) (congrArg₂ (fun a b : EReal => a + b) (congrArg₂ (fun a b : EReal => a * b) ?_ ?_) ?_)
    (congrArg₂ (fun a b : EReal => a * b) ?_ ?_)
  · show ((((bitcast S32x128 8 (wB B1 k j) bitcasts_S8x128_w32_S32x128_w8 (ValueIdx.ix2 a l) : BitVec 8).setWidth 32 : BitVec 32).toInt : ℝ) : EReal) = _
    rw [byte_apply]
    unfold Upd.code
    have e : wB B1 k j (ValueIdx.ix2 (⟨a.val / 4, by omega⟩ : Fin 8) l) = wdK B1 k l ⟨(32 * j + a.val) / 4, by omega⟩ := by
      unfold wB wdK
      refine congrArg B1 (funext fun t => Fin.ext ?_)
      match t with
      | ⟨0, _⟩ => show (8 * j + a.val / 4) % 192 = (32 * j + a.val) / 4; omega
      | ⟨1, _⟩ => rfl
    rw [e, Upd.byteOf_toInt]
    have e2 : a.val % 4 = (32 * j + a.val) % 4 := by omega
    rw [e2]
    simp
  · exact (bcast_row l 32 _ _ a).trans (scB_apply B2 k l)
  · exact (bcast_row l 32 _ _ a).trans (biB_apply B2 k l)
  · exact (bcast_row l 32 _ _ a).trans (muB_apply B2 B3 k l)
  · unfold gvB
    refine Eq.trans ?_ (gtB_apply B3 k l _)
    refine congrArg (gtB B3 k) (funext fun t => Fin.ext ?_)
    match t with
    | ⟨0, _⟩ => show (32 * j + a.val) % 768 = 32 * j + a.val; omega
    | ⟨1, _⟩ => rfl

/-- The updated weights of a slot. -/
def wK : Fin 768 → EReal :=
  Upd.weight (wdK B1 k l) (qK B2 k l 0) (qK B2 k l 1) (Upd.step (Upd.state (qK B2 k l 2) (gK B3 k l))) (gK B3 k l)

theorem wnAll_apply (d : Fin 768) : wnAll B1 B2 B3 k (ValueIdx.ix2 d l) = wK B1 B2 B3 k l d := by
  have hd := d.isLt
  unfold wnAll
  refine (wnB_apply B1 B2 B3 k l (d.val / 32) (by omega) (Fin.ofNat 32 d.val)).trans ?_
  unfold wK
  congr 1
  exact Fin.ext (show 32 * (d.val / 32) + d.val % 32 = d.val by omega)

/-- Rows `8 i ..` of a block of weights. -/
theorem slice_apply (x : FVec Ideal S32x128 .f32) (i : ℕ) (hi : i < 4) (h : S32x128.Slices ![8 * i, 0] S8x128) (a : Fin 8) :
    extractStridedSlice S8x128 ![8 * i, 0] x h (ValueIdx.ix2 a l) = x (ValueIdx.ix2 (⟨8 * i + a.val, by omega⟩ : Fin 32) l) :=
  extractStridedSlice_apply _ _ _ _ _ (fun t => match t with
      | ⟨0, _⟩ => rfl
      | ⟨1, _⟩ => (Nat.zero_add _).symm)

/-- Bounds of the running minimum. -/
theorem le_mnC_iff (wn : ℕ → FVec Ideal S32x128 .f32) (n : ℕ) (a : Fin 8) (x : EReal) :
    x ≤ mnC wn n (ValueIdx.ix2 a l) ↔ x ≤ Ideal.ofBits .f32 0x7F800000#32 ∧
      ∀ j < n, ∀ i : Fin 4, x ≤ wn j (ValueIdx.ix2 (⟨8 * i.val + a.val, by omega⟩ : Fin 32) l) := by
  induction n with
  | zero => exact ⟨fun h => ⟨h, fun _ hj => absurd hj (Nat.not_lt_zero _)⟩, fun h => h.1⟩
  | succ n ih =>
    show x ≤ min (min (min (min (mnC wn n (ValueIdx.ix2 a l)) _) _) _) _ ↔ _
    rw [le_min_iff, le_min_iff, le_min_iff, le_min_iff, ih,
      slice_apply l (wn n) 0 (by omega), slice_apply l (wn n) 1 (by omega), slice_apply l (wn n) 2 (by omega), slice_apply l (wn n) 3 (by omega)]
    constructor
    · rintro ⟨⟨⟨⟨⟨h0, h⟩, a0⟩, a1⟩, a2⟩, a3⟩
      refine ⟨h0, fun j hj i => ?_⟩
      rcases Nat.lt_succ_iff_lt_or_eq.mp hj with hj | rfl
      · exact h j hj i
      · match i with
        | ⟨0, _⟩ => exact a0
        | ⟨1, _⟩ => exact a1
        | ⟨2, _⟩ => exact a2
        | ⟨3, _⟩ => exact a3
    · rintro ⟨h0, h⟩
      exact ⟨⟨⟨⟨⟨h0, fun j hj i => h j (Nat.lt_succ_of_lt hj) i⟩, h n (Nat.lt_succ_self _) 0⟩, h n (Nat.lt_succ_self _) 1⟩,
        h n (Nat.lt_succ_self _) 2⟩, h n (Nat.lt_succ_self _) 3⟩

/-- Bounds of the running maximum. -/
theorem mxC_le_iff (wn : ℕ → FVec Ideal S32x128 .f32) (n : ℕ) (a : Fin 8) (x : EReal) :
    mxC wn n (ValueIdx.ix2 a l) ≤ x ↔ Ideal.ofBits .f32 0xFF800000#32 ≤ x ∧
      ∀ j < n, ∀ i : Fin 4, wn j (ValueIdx.ix2 (⟨8 * i.val + a.val, by omega⟩ : Fin 32) l) ≤ x := by
  induction n with
  | zero => exact ⟨fun h => ⟨h, fun _ hj => absurd hj (Nat.not_lt_zero _)⟩, fun h => h.1⟩
  | succ n ih =>
    show max (max (max (max (mxC wn n (ValueIdx.ix2 a l)) _) _) _) _ ≤ x ↔ _
    rw [max_le_iff, max_le_iff, max_le_iff, max_le_iff, ih,
      slice_apply l (wn n) 0 (by omega), slice_apply l (wn n) 1 (by omega), slice_apply l (wn n) 2 (by omega), slice_apply l (wn n) 3 (by omega)]
    constructor
    · rintro ⟨⟨⟨⟨⟨h0, h⟩, a0⟩, a1⟩, a2⟩, a3⟩
      refine ⟨h0, fun j hj i => ?_⟩
      rcases Nat.lt_succ_iff_lt_or_eq.mp hj with hj | rfl
      · exact h j hj i
      · match i with
        | ⟨0, _⟩ => exact a0
        | ⟨1, _⟩ => exact a1
        | ⟨2, _⟩ => exact a2
        | ⟨3, _⟩ => exact a3
    · rintro ⟨h0, h⟩
      exact ⟨⟨⟨⟨⟨h0, fun j hj i => h j (Nat.lt_succ_of_lt hj) i⟩, h n (Nat.lt_succ_self _) 0⟩, h n (Nat.lt_succ_self _) 1⟩,
        h n (Nat.lt_succ_self _) 2⟩, h n (Nat.lt_succ_self _) 3⟩

/-- All rows, named by lane of eight, block of thirty-two and quarter. -/
theorem forall_rows (P : Fin 768 → Prop) :
    (∀ d, P d) ↔ ∀ a : Fin 8, ∀ j (hj : j < 24), ∀ i : Fin 4, P ⟨32 * j + (8 * i.val + a.val), by omega⟩ := by
  refine ⟨fun h a j hj i => h _, fun h d => ?_⟩
  have hd := d.isLt
  have := h ⟨d.val % 8, by omega⟩ (d.val / 32) (by omega) ⟨d.val % 32 / 8, by omega⟩
  have e : (⟨32 * (d.val / 32) + (8 * (d.val % 32 / 8) + d.val % 8), by omega⟩ : Fin 768) = d := Fin.ext (by show 32 * (d.val / 32) + (8 * (d.val % 32 / 8) + d.val % 8) = d.val; omega)
  rwa [e] at this

/-- An index of eight sublanes over a lane. -/
theorem lift8 (a : Fin 8) : reduces_S8x128_S128.lift (ValueIdx.ix1 l) a = ValueIdx.ix2 a l :=
  funext fun t => match t with
    | ⟨0, _⟩ => rfl
    | ⟨1, _⟩ => rfl

/-- Bounds of a minimum over eight sublanes. -/
theorem le_min8_iff (y : FVec Ideal S8x128 .f32) (x : EReal) :
    x ≤ (multiReduction .minimumf [0] S128 y 0x7F800000#32 reduces_S8x128_S128 (.inl rfl) rfl (ValueIdx.ix1 l) : EReal)
      ↔ x ≤ Ideal.ofBits .f32 0x7F800000#32 ∧ ∀ a : Fin 8, x ≤ y (ValueIdx.ix2 a l) := by
  refine Iff.trans (iff_of_eq (congrArg (fun z : EReal => x ≤ z) ((multiReduction_minimumf_eq_fold _ _ _ _ _ _).trans
    (reduces_S8x128_S128.fold_filter_drop_single _ _ y (ValueIdx.ix1 l))))) ?_
  refine Iff.trans (Finset.le_fold_min (β := EReal) x) ?_
  refine and_congr_right fun _ => ⟨fun h a => ?_, fun h a _ => ?_⟩
  · rw [← lift8]; exact h a (Finset.mem_univ _)
  · exact le_of_le_of_eq (h a) (congrArg y (lift8 l a).symm)

/-- Bounds of a maximum over eight sublanes. -/
theorem max8_le_iff (y : FVec Ideal S8x128 .f32) (x : EReal) :
    (multiReduction .maximumf [0] S128 y 0xFF800000#32 reduces_S8x128_S128 (.inl rfl) rfl (ValueIdx.ix1 l) : EReal) ≤ x
      ↔ Ideal.ofBits .f32 0xFF800000#32 ≤ x ∧ ∀ a : Fin 8, y (ValueIdx.ix2 a l) ≤ x := by
  refine Iff.trans (iff_of_eq (congrArg (fun z : EReal => z ≤ x) (Ideal.multiReduction_maximumf_single _ _ _ _ _ _))) ?_
  refine Iff.trans (Finset.fold_max_le (β := EReal) x) ?_
  refine and_congr_right fun _ => ⟨fun h a => ?_, fun h a _ => ?_⟩
  · rw [← lift8]; exact h a (Finset.mem_univ _)
  · exact le_of_eq_of_le (congrArg y (lift8 l a)) (h a)

/-- The new bias of a slot: the least updated weight. -/
theorem loB_apply : loB B1 B2 B3 k (ValueIdx.ix2 0 l) = Upd.lo (wK B1 B2 B3 k l) := by
  unfold loB loV
  rw [shapeCast_apply _ _ _ (ValueIdx.ix1 l) (by rewrite [Shape.rowMajor_val_two, Shape.rowMajor_val_one]; show l.val = 0 * 128 + l.val; omega)]
  refine eq_of_forall_le_iff fun x => ?_
  refine (le_min8_iff l _ x).trans ?_
  rw [Upd.le_lo_iff, forall_rows]
  refine and_congr_right fun hx => ?_
  refine ⟨fun h a j hj i => ?_, fun h a => ?_⟩
  · have := ((le_mnC_iff l _ _ _ _).mp (h a)).2 j hj i
    rwa [wnB_apply B1 B2 B3 k l j hj] at this
  · refine (le_mnC_iff l (wnB B1 B2 B3 k) 24 a x).mpr ⟨hx, fun j hj i => ?_⟩
    rw [wnB_apply B1 B2 B3 k l j hj]
    exact h a j hj i

/-- The range of the updated weights of a slot. -/
theorem rngB_apply : rngB B1 B2 B3 k (ValueIdx.ix2 0 l) = Upd.rng (wK B1 B2 B3 k l) := by
  unfold rngB rngV Upd.rng
  refine congrArg₂ (fun a b : EReal => a - b) ?_ (loB_apply B1 B2 B3 k l)
  rw [shapeCast_apply _ _ _ (ValueIdx.ix1 l) (by rewrite [Shape.rowMajor_val_two, Shape.rowMajor_val_one]; show l.val = 0 * 128 + l.val; omega)]
  refine eq_of_forall_ge_iff fun x => ?_
  refine (max8_le_iff l _ x).trans ?_
  rw [Upd.hi_le_iff, forall_rows]
  refine and_congr_right fun hx => ?_
  refine ⟨fun h a j hj i => ?_, fun h a => ?_⟩
  · have := ((mxC_le_iff l _ _ _ _).mp (h a)).2 j hj i
    rwa [wnB_apply B1 B2 B3 k l j hj] at this
  · refine (mxC_le_iff l (wnB B1 B2 B3 k) 24 a x).mpr ⟨hx, fun j hj i => ?_⟩
    rw [wnB_apply B1 B2 B3 k l j hj]
    exact h a j hj i

/-- The new scale of a slot. -/
theorem nsB_apply : nsB B1 B2 B3 k (ValueIdx.ix2 0 l) = Upd.scale (wK B1 B2 B3 k l) := by
  unfold Upd.scale
  rw [← rngB_apply]
  rfl

/-- A requantised code of a slot. -/
theorem codeB_apply (c : ℕ) (hc : c < 6) (a : Fin 128) :
    codeB B1 B2 B3 B4 k c (ValueIdx.ix2 a l)
      = Upd.requant (Upd.lo (wK B1 B2 B3 k l)) (Upd.rng (wK B1 B2 B3 k l)) (rK B4 k l ⟨128 * c + a.val, by omega⟩)
          (wK B1 B2 B3 k l ⟨128 * c + a.val, by omega⟩) := by
  have ha := a.isLt
  unfold codeB codeV k0_pay119 Upd.requant
  refine congrArg (fun z : EReal => (Ideal.fptosi 32 (min (Ideal.ofBits .f32 0x437F0000#32) (max (Ideal.ofBits .f32 0x00000000#32)
    (Ideal.liftRound Int.floor z)))).setWidth 8) ?_
  refine congrArg₂ (fun a b : EReal => a + b) (congrArg₂ (fun a b : EReal => a * b) (congrArg₂ (fun a b : EReal => a - b) ?_ ?_) ?_)
    (congrArg₂ (fun a b : EReal => a * b) ?_ rfl)
  · unfold vB
    refine Eq.trans ?_ (wnAll_apply B1 B2 B3 k l _)
    refine congrArg (wnAll B1 B2 B3 k) (funext fun t => Fin.ext ?_)
    match t with
    | ⟨0, _⟩ => show (128 * c + a.val) % 768 = 128 * c + a.val; omega
    | ⟨1, _⟩ => rfl
  · exact (bcast_row l 128 _ _ a).trans (loB_apply B1 B2 B3 k l)
  · refine (bcast_row l 128 _ _ a).trans ?_
    rw [← rngB_apply]
    rfl
  · show (((transpose S128x128 [1, 0] (shrui (rB B4 k c) (broadcast S128x128 8#32)) transposes_S128x128_p1_0_S128x128 (ValueIdx.ix2 a l)).toInt : ℝ) : EReal) = _
    rw [transpose_apply [1, 0] _ transposes_S128x128_p1_0_S128x128 (ValueIdx.ix2 a l) (ValueIdx.ix2 l a) (fun b => match b with
      | ⟨0, _⟩ => rfl
      | ⟨1, _⟩ => rfl)]
    have e : rB B4 k c (ValueIdx.ix2 l a) = rK B4 k l ⟨128 * c + a.val, by omega⟩ := rfl
    show ((((rB B4 k c (ValueIdx.ix2 l a) >>> 8 : BitVec 32)).toInt : ℝ) : EReal) = _
    rw [e, Upd.shift8_toInt, Int.cast_natCast]

end Block

/-- A zero word's bytes are zero. -/
theorem padWord : ∀ a : Fin 8, (IntOp.andi (IntOp.shrui .vector (Scalar.select (IntOp.cmpi .slt (BitVec.ofNat 32 (0 * 8 + a.val)) 4#32) 0#32 0#32)
    (IntOp.muli (IntOp.andi (BitVec.ofNat 32 (0 * 8 + a.val)) 3#32) 8#32)) 255#32).setWidth 8 = 0#8 := by decide

/-- The last eight rows of bytes are zero. -/
theorem pad_apply (a : Fin 8) (b : Fin 128) : k0_pay129 (ValueIdx.ix2 a b) = 0#8 := padWord a

end Cert.KernelIdeal.Val

end
-- ==== Proof.KFinal.lean ====
module

public import proofs.«01_k».proof.Proof.KRun
public import proofs.«01_k».proof.Proof.KVal
public import Idealize.ShloMosaic.Lib.Pipeline.ValueKit.Geometry
public import Idealize.ShloMosaic.Lib.StableHlo.Run

@[expose] public section

set_option maxRecDepth 16384

noncomputable section

/-! # The kernel's two result arrays, from its argument arrays -/

namespace Cert.KernelIdeal.Hand

open Cert.KernelIdeal Cert.KernelIdeal.Gen Cert.KernelIdeal.Val
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ### Where the windows' blocks lie -/

theorem ix0 : ∀ t : Fin cfg0.N, win0_0.index t = ![0, t.val] := (by decide +kernel : ∀ t : Fin grid0.N, win0_0.index t = ![0, t.val])
theorem ix1 : ∀ t : Fin cfg0.N, win0_1.index t = ![24, t.val] := (by decide +kernel : ∀ t : Fin grid0.N, win0_1.index t = ![24, t.val])
theorem ix2 : ∀ t : Fin cfg0.N, win0_2.index t = ![t.val / 2, t.val % 2, 0] :=
  (by decide +kernel : ∀ t : Fin grid0.N, win0_2.index t = ![t.val / 2, t.val % 2, 0])
theorem ix3 : ∀ t : Fin cfg0.N, win0_3.index t = ![t.val, 0] := (by decide +kernel : ∀ t : Fin grid0.N, win0_3.index t = ![t.val, 0])
theorem ix4 : ∀ t : Fin cfg0.N, win0_4.index t = ![0, t.val] := (by decide +kernel : ∀ t : Fin grid0.N, win0_4.index t = ![0, t.val])
theorem ix5 : ∀ t : Fin cfg0.N, win0_5.index t = ![0, t.val] := (by decide +kernel : ∀ t : Fin grid0.N, win0_5.index t = ![0, t.val])

/-- There are 64 grid points. -/
theorem t_lt (t : Fin cfg0.N) : t.val < 64 := by have h : cfg0.N = 64 := N_0; have := t.isLt; omega

/-! ### The operands' blocks at an index -/

/-- Point `t`'s block of code words: rows 0 to 191, columns `1280 t` on. -/
theorem blk0 (c : Dev nD) (t : Fin cfg0.N) (y : S192x1280.Idx) (i : S200x81920.Idx)
    (h0 : (i 0).val = (y 0).val) (h1 : (i 1).val = 1280 * t.val + (y 1).val) :
    X0_0 m c t y = m ((c : Thread nD τ).loc main_arg0) i := by
  unfold X0_0 Pipeline.Window.fill
  rw [dif_pos (moved0_0 t y)]
  blk_simp [iblk]
  refine congrArg (m ((c : Thread nD τ).loc main_arg0)) (funext fun a => Fin.ext ?_)
  match a with
  | ⟨0, _⟩ => blk_simp [ix0]; exact h0.symm
  | ⟨1, _⟩ => blk_simp [ix0]; show t.val * 1280 + (y 1).val = (i 1).val; omega

/-- Point `t`'s block of parameter words: rows 192 to 199. -/
theorem blk1 (c : Dev nD) (t : Fin cfg0.N) (y : S8x1280.Idx) (i : S200x81920.Idx)
    (h0 : (i 0).val = 192 + (y 0).val) (h1 : (i 1).val = 1280 * t.val + (y 1).val) :
    iblk m c 1 t y = m ((c : Thread nD τ).loc main_arg0) i := by
  blk_simp [iblk]
  refine congrArg (m ((c : Thread nD τ).loc main_arg0)) (funext fun a => Fin.ext ?_)
  match a with
  | ⟨0, _⟩ => blk_simp [ix1]; show 24 * 8 + (y 0).val = (i 0).val; omega
  | ⟨1, _⟩ => blk_simp [ix1]; show t.val * 1280 + (y 1).val = (i 1).val; omega

/-- Point `t`'s block of gradients. -/
theorem blk2 (c : Dev nD) (t : Fin cfg0.N) (y : S1x7680x128.Idx) (i : S32x15368x128.Idx)
    (h0 : (i 0).val = t.val / 2) (h1 : (i 1).val = 7680 * (t.val % 2) + (y 1).val) (h2 : (i 2).val = (y 2).val) :
    X0_2 m c t y = m ((c : Thread nD τ).loc main_arg1) i := by
  unfold X0_2 Pipeline.Window.fill
  rw [dif_pos (moved0_2 t y)]
  blk_simp [iblk]
  refine congrArg (m ((c : Thread nD τ).loc main_arg1)) (funext fun a => Fin.ext ?_)
  have hy : (y 0).val < 1 := (y 0).isLt
  match a with
  | ⟨0, _⟩ => blk_simp [ix2]; exact h0.symm
  | ⟨1, _⟩ => blk_simp [ix2]; show t.val % 2 * 7680 + (y 1).val = (i 1).val; omega
  | ⟨2, _⟩ => blk_simp [ix2]; exact h2.symm

/-- Point `t`'s block of random words. -/
theorem blk3 (c : Dev nD) (t : Fin cfg0.N) (y : S1280x768.Idx) (i : S81920x768.Idx)
    (h0 : (i 0).val = 1280 * t.val + (y 0).val) (h1 : (i 1).val = (y 1).val) :
    iblk m c 3 t y = m ((c : Thread nD τ).loc main_arg2) i := by
  blk_simp [iblk]
  refine congrArg (m ((c : Thread nD τ).loc main_arg2)) (funext fun a => Fin.ext ?_)
  match a with
  | ⟨0, _⟩ => blk_simp [ix3]; show t.val * 1280 + (y 0).val = (i 0).val; omega
  | ⟨1, _⟩ => blk_simp [ix3]; exact h1.symm

/-! ### A slot of lane block `k` at point `t`, read from the arguments -/

section Slot
variable (c : Dev nD) (t : Fin cfg0.N) (k : ℕ) (hk : k < 10) (l : Fin 128) (s : Fin 81920) (hs : s.val = 1280 * t.val + 128 * k + l.val)
include hk hs

theorem wdK_eq : wdK (X0_0 m c t) k l = Upd.words (m ((c : Thread nD τ).loc main_arg0)) s := by
  funext w
  refine blk0 m c t _ _ rfl ?_
  show s.val = 1280 * t.val + (128 * k + l.val) % 1280
  have := l.isLt; omega

theorem qK_eq (r : Fin 8) : qK (iblk m c 1 t) k l r = Upd.param (m ((c : Thread nD τ).loc main_arg0)) s r := by
  refine congrArg (Ideal.ofBits .f32) (blk1 m c t _ _ rfl ?_)
  show s.val = 1280 * t.val + (128 * k + l.val) % 1280
  have := l.isLt; omega

theorem gK_eq : gK (X0_2 m c t) k l = Upd.grad (m ((c : Thread nD τ).loc main_arg1)) s := by
  funext d
  have hl := l.isLt; have hd := d.isLt; have ht := t_lt t
  refine blk2 m c t _ _ ?_ ?_ rfl
  · show s.val / 2560 = t.val / 2; omega
  · show 6 * (s.val % 2560) + d.val / 128 = 7680 * (t.val % 2) + (768 * k + d.val / 128 + 6 * l.val) % 7680
    omega

theorem rK_eq (d : Fin 768) : rK (iblk m c 3 t) k l d = m ((c : Thread nD τ).loc main_arg2) (ValueIdx.ix2 s d) := by
  have hl := l.isLt; have hd := d.isLt
  refine blk3 m c t _ _ ?_ ?_
  · show s.val = 1280 * t.val + (128 * k + l.val) % 1280; omega
  · show d.val = d.val % 768; omega

theorem st_eq : Upd.state (qK (iblk m c 1 t) k l 2) (gK (X0_2 m c t) k l)
    = Upd.slotState (m ((c : Thread nD τ).loc main_arg0)) (m ((c : Thread nD τ).loc main_arg1)) s := by
  rw [qK_eq m c t k hk l s hs, gK_eq m c t k hk l s hs]; rfl

theorem wK_eq : wK (X0_0 m c t) (iblk m c 1 t) (X0_2 m c t) k l
    = Upd.slotWeight (m ((c : Thread nD τ).loc main_arg0)) (m ((c : Thread nD τ).loc main_arg1)) s := by
  unfold wK
  rw [wdK_eq m c t k hk l s hs, st_eq m c t k hk l s hs, qK_eq m c t k hk l s hs, qK_eq m c t k hk l s hs, gK_eq m c t k hk l s hs]; rfl

end Slot

/-! ### The results -/

/-- The block of bytes point `t` writes is its columns of the specified bytes. -/
theorem outB_eq (c : Dev nD) (t : Fin cfg0.N) (y : S776x1280.Idx) (i : S776x81920.Idx)
    (h0 : (i 0).val = (y 0).val) (h1 : (i 1).val = 1280 * t.val + (y 1).val) :
    outB (X0_0 m c t) (iblk m c 1 t) (X0_2 m c t) (iblk m c 3 t) y
      = Upd.rows (m ((c : Thread nD τ).loc main_arg0)) (m ((c : Thread nD τ).loc main_arg1)) (m ((c : Thread nD τ).loc main_arg2)) i := by
  have hy0 : (y 0).val < 776 := (y 0).isLt
  have hy1 : (y 1).val < 1280 := (y 1).isLt
  unfold outB Upd.rows
  by_cases h : (y 0).val < 768
  · have hk : (y 1).val / 128 < 10 := by omega
    have hs : (i 1).val = 1280 * t.val + 128 * ((y 1).val / 128) + (Fin.ofNat 128 (y 1).val).val := by
      show _ = 1280 * t.val + 128 * ((y 1).val / 128) + (y 1).val % 128; omega
    rw [if_pos h, dif_pos (show (i 0).val < 768 by omega), codeB_apply _ _ _ _ _ _ _ (by omega),
      wK_eq m c t _ hk _ (i 1) hs, rK_eq m c t _ hk _ (i 1) hs]
    have e : (⟨128 * ((y 0).val / 128) + (Fin.ofNat 128 (y 0).val).val, by
        show 128 * ((y 0).val / 128) + (y 0).val % 128 < 768; omega⟩ : Fin 768) = ⟨(i 0).val, by omega⟩ :=
      Fin.ext (by show 128 * ((y 0).val / 128) + (y 0).val % 128 = (i 0).val; omega)
    unfold Upd.slotCode
    rw [← e]
  · rw [if_neg h, dif_neg (show ¬ (i 0).val < 768 by omega), Val.pad_apply]

/-- The block of floats point `t` writes is its columns of the specified floats. -/
theorem auxB_eq (c : Dev nD) (t : Fin cfg0.N) (y : S8x1280.Idx) (i : S8x81920.Idx)
    (h0 : (i 0).val = (y 0).val) (h1 : (i 1).val = 1280 * t.val + (y 1).val) :
    auxB (X0_0 m c t) (iblk m c 1 t) (X0_2 m c t) y
      = Upd.aux (m ((c : Thread nD τ).loc main_arg0)) (m ((c : Thread nD τ).loc main_arg1)) i := by
  have hy1 : (y 1).val < 1280 := (y 1).isLt
  have hk : (y 1).val / 128 < 10 := by omega
  have hs : (i 1).val = 1280 * t.val + 128 * ((y 1).val / 128) + (Fin.ofNat 128 (y 1).val).val := by
    show _ = 1280 * t.val + 128 * ((y 1).val / 128) + (y 1).val % 128; omega
  unfold auxB Upd.aux
  rw [h0, nsB_apply, loB_apply, stB_apply, wK_eq m c t _ hk _ (i 1) hs, st_eq m c t _ hk _ (i 1) hs]
  rfl

/-- The first result array: the specified bytes. -/
theorem final_4 (c : Dev nD) : (dats m 0 c).arrAt 4 cfg0.N
    = Upd.rows (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine outB_eq m c t _ _ ?_ ?_
  · blk_simp [ix4]
  · blk_simp [ix4]; show t.val * 1280 + (y 1).val = _; omega

/-- The second result array: the specified floats. -/
theorem final_5 (c : Dev nD) : (dats m 0 c).arrAt 5 cfg0.N
    = Upd.aux (m ((c : Thread nD τ).loc main_arg0)) (m ((c : Thread nD τ).loc main_arg1)) := by
  refine (dats m 0 c).arrAt_eq_of_covers 5 _ (by decide +kernel) fun t hf y => ?_
  blk_simp
  rw [after0_5]
  refine auxB_eq m c t _ _ ?_ ?_
  · blk_simp [ix5]
  · blk_simp [ix5]; show t.val * 1280 + (y 1).val = _; omega

/-! ### After the host lines: the transpose of the bytes and the first three rows of the floats -/

/-- The first result array before the host lines, -/
theorem exit_4 (c : Dev nD) :
    Pipeline.withArrays spec0 c (V0 m c) (fun w => (dats m 0 c).arrAt w cfg0.N) (Proc.devRef .tc main_v0_0)
      = Upd.rows (m ((c : Thread nD τ).loc main_arg0)) (m ((c : Thread nD τ).loc main_arg1)) (m ((c : Thread nD τ).loc main_arg2)) :=
  ((dats m 0 c).withArrays_arrAt sharedIn0 (V0 m c) (A_eq m c) 4).trans (final_4 m c)

/-- and the second. -/
theorem exit_5 (c : Dev nD) :
    Pipeline.withArrays spec0 c (V0 m c) (fun w => (dats m 0 c).arrAt w cfg0.N) (Proc.devRef .tc main_v0_1)
      = Upd.aux (m ((c : Thread nD τ).loc main_arg0)) (m ((c : Thread nD τ).loc main_arg1)) :=
  ((dats m 0 c).withArrays_arrAt sharedIn0 (V0 m c) (A_eq m c) 5).trans (final_5 m c)

/-- A row of the floats, as a vector. -/
theorem row_apply (x : (⟨S8x81920, .f32⟩ : BufTy).Contents (Elt Ideal)) (k : Fin 8) (h : S8x81920.Slices ![k.val, 0] S1x81920) (s : Fin 81920) :
    shapeCast S81920 (extractStridedSlice S1x81920 ![k.val, 0] x h) shapeCasts_S1x81920_S81920 (ValueIdx.ix1 s) = x (ValueIdx.ix2 k s) := by
  rw [shapeCast_apply _ shapeCasts_S1x81920_S81920 (ValueIdx.ix1 s) (ValueIdx.ix2 (0 : Fin 1) s)
    (by rewrite [Shape.rowMajor_val_two, Shape.rowMajor_val_one]; show 0 * 81920 + s.val = s.val; omega)]
  exact extractStridedSlice_apply _ _ h _ _ (fun t => match t with
    | ⟨0, _⟩ => by show k.val = k.val + 0; rfl
    | ⟨1, _⟩ => by show s.val = 0 + s.val; omega)

/-- Row `k` of the second result array, as a vector. -/
theorem row_eq (c : Dev nD) (k : Fin 8) (h : S8x81920.Slices ![k.val, 0] S1x81920) (f : S81920.Idx → EReal)
    (hf : ∀ s : Fin 81920, Upd.aux (m ((c : Thread nD τ).loc main_arg0)) (m ((c : Thread nD τ).loc main_arg1)) (ValueIdx.ix2 k s) = f (ValueIdx.ix1 s)) :
    shapeCast S81920 (extractStridedSlice S1x81920 ![k.val, 0]
      (Pipeline.withArrays spec0 c (V0 m c) (fun w => (dats m 0 c).arrAt w cfg0.N) (Proc.devRef .tc main_v0_1) : (⟨S8x81920, .f32⟩ : BufTy).Contents (Elt Ideal)) h)
      shapeCasts_S1x81920_S81920 = f := by
  rw [exit_5]
  funext y
  obtain ⟨s, rfl⟩ : ∃ s : Fin 81920, y = ValueIdx.ix1 s := ⟨y 0, funext fun t => match t with | ⟨0, _⟩ => rfl⟩
  exact (row_apply _ k h s).trans (hf s)

/-- After the host lines the first result is the row bytes, -/
theorem tail_1 (c : Dev nD) : Pipeline.afterTail₀ cfgs (dats m) 0 (V0 m) [hostOps1] c main_v1
    = Upd.rowBytes (m ((c : Thread nD τ).loc main_arg0)) (m ((c : Thread nD τ).loc main_arg1)) (m ((c : Thread nD τ).loc main_arg2)) := by
  unfold Pipeline.afterTail₀
  simp only [List.flatten_cons, List.flatten_nil, List.append_nil, hostOps1]
  after_results_simp
  refine (congrArg (fun x => transpose S81920x776 [1, 0] x transposes_S776x81920_S81920x776_1_0) (exit_4 m c)).trans ?_
  funext y
  obtain ⟨a, b, rfl⟩ : ∃ (a : Fin 81920) (b : Fin 776), y = ValueIdx.ix2 a b := ⟨y 0, y 1, ValueIdx.eq_ix2 y⟩
  exact transpose_apply [1, 0] _ transposes_S776x81920_S81920x776_1_0 (ValueIdx.ix2 a b) (ValueIdx.ix2 b a) (fun t => match t with
    | ⟨0, _⟩ => rfl
    | ⟨1, _⟩ => rfl)

/-- the second result is the new scales, -/
theorem tail_3 (c : Dev nD) : Pipeline.afterTail₀ cfgs (dats m) 0 (V0 m) [hostOps1] c main_v3
    = Upd.newScale (m ((c : Thread nD τ).loc main_arg0)) (m ((c : Thread nD τ).loc main_arg1)) := by
  unfold Pipeline.afterTail₀
  simp only [List.flatten_cons, List.flatten_nil, List.append_nil, hostOps1]
  after_results_simp
  exact row_eq m c 0 slices_S8x81920_S1x81920_0_0 _ (fun s => rfl)

/-- the third is the new biases, -/
theorem tail_5 (c : Dev nD) : Pipeline.afterTail₀ cfgs (dats m) 0 (V0 m) [hostOps1] c main_v5
    = Upd.newBias (m ((c : Thread nD τ).loc main_arg0)) (m ((c : Thread nD τ).loc main_arg1)) := by
  unfold Pipeline.afterTail₀
  simp only [List.flatten_cons, List.flatten_nil, List.append_nil, hostOps1]
  after_results_simp
  exact row_eq m c 1 slices_S8x81920_S1x81920_1_0 _ (fun s => rfl)

/-- and the fourth is the new states. -/
theorem tail_7 (c : Dev nD) : Pipeline.afterTail₀ cfgs (dats m) 0 (V0 m) [hostOps1] c main_v7
    = Upd.newState (m ((c : Thread nD τ).loc main_arg0)) (m ((c : Thread nD τ).loc main_arg1)) := by
  unfold Pipeline.afterTail₀
  simp only [List.flatten_cons, List.flatten_nil, List.append_nil, hostOps1]
  after_results_simp
  exact row_eq m c 2 slices_S8x81920_S1x81920_2_0 _ (fun s => rfl)

/-- The kernel's run: the four results as specified, the arguments unchanged. -/
theorem value : θ_run defs (onTc (τ := τ) (main (F := Ideal))) ⟨m, fun _ => 0, ρ⟩ (fun r => ∀ c : Dev nD,
      r.2.mem ((c.tc : Thread nD τ).loc main_v1) = Upd.rowBytes (m ((c : Thread nD τ).loc main_arg0)) (m ((c : Thread nD τ).loc main_arg1)) (m ((c : Thread nD τ).loc main_arg2))
      ∧ r.2.mem ((c.tc : Thread nD τ).loc main_v3) = Upd.newScale (m ((c : Thread nD τ).loc main_arg0)) (m ((c : Thread nD τ).loc main_arg1))
      ∧ r.2.mem ((c.tc : Thread nD τ).loc main_v5) = Upd.newBias (m ((c : Thread nD τ).loc main_arg0)) (m ((c : Thread nD τ).loc main_arg1))
      ∧ r.2.mem ((c.tc : Thread nD τ).loc main_v7) = Upd.newState (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).2 main_v1 (by decide)).trans (tail_1 m c), ((h.1.1 c).2 main_v3 (by decide)).trans (tail_3 m c),
      ((h.1.1 c).2 main_v5 (by decide)).trans (tail_5 m c), ((h.1.1 c).2 main_v7 (by decide)).trans (tail_7 m c), h.2.1 c⟩)
    (Idealize.ShloMosaic.θ_run_and (run_main m ρ) (frame m ρ))

end Cert.KernelIdeal.Hand

end
-- ==== Proof.RVal.lean ====
module

public import proofs.«01_k».proof.Proof.Gen.ReferenceIdeal.Read
public import proofs.«01_k».proof.Proof.Spec

@[expose] public section

set_option maxRecDepth 16384

noncomputable section

/-! # The reference at an index, over the extended reals -/

namespace Cert.ReferenceIdeal.Val

open Cert.ReferenceIdeal Cert.ReferenceIdeal.Read
open Idealize.ShloMosaic

variable (x0 : (⟨S200x81920, .i32⟩ : BufTy).Contents (Elt Ideal)) (x1 : (⟨S32x15368x128, .f32⟩ : BufTy).Contents (Elt Ideal))
  (x2 : (⟨S81920x768, .i32⟩ : BufTy).Contents (Elt Ideal)) (d : Fin 768) (s : Fin 81920)

/-- The shift of byte `b`. -/
theorem shift_byte (w : BitVec 32) (b : ℕ) (hb : b < 4) :
    IntOp.andi (IntOp.shrui .host w (IntOp.muli (BitVec.ofNat 32 b) 8#32)) 255#32 = Upd.byteOf w b := by
  have e : (IntOp.muli (BitVec.ofNat 32 b) 8#32).toNat = 8 * b := by
    interval_cases b <;> rfl
  unfold IntOp.andi IntOp.shrui Upd.byteOf
  rw [if_pos (by rw [e]; omega), BitVec.ushiftRight_eq', e]

/-- The old codes. -/
theorem v12_apply : val_main_v12 x0 (ValueIdx.ix2 d s) = Upd.code (Upd.words x0 s) d := by
  have hd := d.isLt
  have hs := s.isLt
  rw [val_main_v12_apply, val_main_v11_apply, val_main_v10_apply, val_main_v9_apply, val_main_c_0_apply, val_main_v8_apply,
    val_main_v7_apply, val_main_v5_apply, val_main_v2_apply, val_main_v1_apply, val_main_c_apply, val_main_v0_apply,
    val_main_v6_apply, val_main_v4_apply, val_main_v3_apply]
  show (((IntOp.andi (IntOp.shrui .host (x0 _) (IntOp.muli (BitVec.ofNat 32 ((d.val * 81920 + s.val) / 81920 % 4)) 8#32)) 255#32).toInt : ℝ) : EReal) = _
  rw [show (d.val * 81920 + s.val) / 81920 % 4 = d.val % 4 by omega, shift_byte _ _ (Nat.mod_lt _ (by decide)), Upd.byteOf_toInt, Int.cast_natCast]
  unfold Upd.code Upd.words
  refine congrArg (fun w : BitVec 32 => (((Upd.byteOf w (d.val % 4)).toNat : ℝ) : EReal)) (congrArg x0 (funext fun t => Fin.ext ?_))
  match t with
  | ⟨0, _⟩ => show (d.val * 81920 + s.val) / 327680 = d.val / 4; omega
  | ⟨1, _⟩ => show (d.val * 81920 + s.val) % 81920 = s.val; omega

/-- The old scale, -/
theorem v16_apply : val_main_v16 x0 (ValueIdx.ix1 s) = Upd.param x0 s 0 := by
  rw [val_main_v16_apply, val_main_v15_apply, val_main_v14_apply, val_main_v13_apply]
  refine congrArg (Ideal.ofBits .f32) (congrArg x0 (funext fun t => Fin.ext ?_))
  match t with
  | ⟨0, _⟩ => rfl
  | ⟨1, _⟩ => exact Nat.mod_eq_of_lt s.isLt
/-- the old bias -/
theorem v18_apply : val_main_v18 x0 (ValueIdx.ix1 s) = Upd.param x0 s 1 := by
  rw [val_main_v18_apply, val_main_v17_apply, val_main_v14_apply, val_main_v13_apply]
  refine congrArg (Ideal.ofBits .f32) (congrArg x0 (funext fun t => Fin.ext ?_))
  match t with
  | ⟨0, _⟩ => rfl
  | ⟨1, _⟩ => exact Nat.mod_eq_of_lt s.isLt
/-- and the old state. -/
theorem v20_apply : val_main_v20 x0 (ValueIdx.ix1 s) = Upd.param x0 s 2 := by
  rw [val_main_v20_apply, val_main_v19_apply, val_main_v14_apply, val_main_v13_apply]
  refine congrArg (Ideal.ofBits .f32) (congrArg x0 (funext fun t => Fin.ext ?_))
  match t with
  | ⟨0, _⟩ => rfl
  | ⟨1, _⟩ => exact Nat.mod_eq_of_lt s.isLt

/-- The gradients. -/
theorem v23_apply : val_main_v23 x1 (ValueIdx.ix2 d s) = Upd.grad x1 s d := by
  have hd := d.isLt
  have hs := s.isLt
  rw [val_main_v23_apply, val_main_v22_apply, val_main_v21_apply]
  unfold Upd.grad
  refine congrArg x1 (funext fun t => Fin.ext ?_)
  match t with
  | ⟨0, _⟩ => show (s.val * 768 + d.val) / 1966080 = s.val / 2560; omega
  | ⟨1, _⟩ => show (s.val * 768 + d.val) / 128 % 15360 = 6 * (s.val % 2560) + d.val / 128; omega
  | ⟨2, _⟩ => show (s.val * 768 + d.val) % 128 = d.val % 128; omega

/-- The new state. -/
theorem v28_apply : val_main_v28 x0 x1 (ValueIdx.ix1 s) = Upd.slotState x0 x1 s := by
  rw [val_main_v28_apply, v20_apply, val_main_v27_apply, val_main_v25_apply, val_main_v26_apply, val_main_cst_1_apply, val_main_cst_apply]
  unfold Upd.slotState Upd.state
  refine congrArg (fun z : EReal => Upd.param x0 s 2 + Ideal.div z (Ideal.ofBits .f32 0x44400000#32)) ?_
  refine (congrArg (fun z : EReal => z + _) Ideal.ofBits_zero_f32).trans ((zero_add _).trans (Finset.sum_congr rfl fun k _ => ?_))
  rw [val_main_v24_apply]
  have e : idx_main_v25 (ValueIdx.ix1 s) k = ValueIdx.ix2 k s := funext fun t => match t with
    | ⟨0, _⟩ => rfl
    | ⟨1, _⟩ => rfl
  rw [e, v23_apply]
  rfl

/-- The step size. -/
theorem v33_apply : val_main_v33 x0 x1 (ValueIdx.ix1 s) = Upd.step (Upd.slotState x0 x1 s) := by
  rw [val_main_v33_apply, val_main_v32_apply, val_main_v31_apply, val_main_v30_apply, val_main_v29_apply, v28_apply]
  rfl

/-- A column index of a rank-one value. -/
theorem col (i : S81920.Idx) (h : (i 0).val = s.val) : i = ValueIdx.ix1 s := funext fun t => match t with
  | ⟨0, _⟩ => Fin.ext h

/-- The updated weights. -/
theorem v43_apply : val_main_v43 x0 x1 (ValueIdx.ix2 d s) = Upd.slotWeight x0 x1 s d := by
  rw [val_main_v43_apply, val_main_v42_apply, val_main_v41_apply, val_main_v40_apply, val_main_v39_apply, val_main_v38_apply,
    val_main_v37_apply, val_main_v36_apply, val_main_v35_apply, val_main_v34_apply, v12_apply, v23_apply,
    col s (idx_main_v40 _) rfl, col s (idx_main_v37 _) rfl, col s (idx_main_v34 _) rfl, v33_apply, v18_apply, v16_apply]
  rfl

theorem lift768 : (by decide : S768x81920.Reduces [0] S81920).lift (ValueIdx.ix1 s) d = ValueIdx.ix2 d s :=
  funext fun t => match t with
    | ⟨0, _⟩ => rfl
    | ⟨1, _⟩ => rfl

/-- The least updated weight. -/
theorem v44_apply : val_main_v44 x0 x1 (ValueIdx.ix1 s) = Upd.lo (Upd.slotWeight x0 x1 s) := by
  unfold val_main_v44
  refine (Host.reduce_eq_fold_single _ _ _ _ (by decide : S768x81920.Reduces [0] S81920) _ _).trans ?_
  unfold Upd.lo
  refine Finset.fold_congr fun k _ => ?_
  exact (congrArg (val_main_v43 x0 x1) (lift768 k s)).trans (v43_apply x0 x1 k s)

/-- The greatest. -/
theorem v45_apply : val_main_v45 x0 x1 (ValueIdx.ix1 s) = Upd.hi (Upd.slotWeight x0 x1 s) := by
  unfold val_main_v45
  refine (Host.reduce_eq_fold_single _ _ _ _ (by decide : S768x81920.Reduces [0] S81920) _ _).trans ?_
  unfold Upd.hi
  refine Finset.fold_congr fun k _ => ?_
  exact (congrArg (val_main_v43 x0 x1) (lift768 k s)).trans (v43_apply x0 x1 k s)

theorem v46_apply : val_main_v46 x0 x1 (ValueIdx.ix1 s) = Upd.rng (Upd.slotWeight x0 x1 s) := by
  rw [val_main_v46_apply, v44_apply, v45_apply]
  rfl

/-- The new scale. -/
theorem v48_apply : val_main_v48 x0 x1 (ValueIdx.ix1 s) = Upd.scale (Upd.slotWeight x0 x1 s) := by
  rw [val_main_v48_apply, v46_apply, val_main_v47_apply]
  rfl

/-- The new codes. -/
theorem v69_apply : val_main_v69 x0 x1 x2 (ValueIdx.ix2 d s) = Upd.slotCode x0 x1 x2 s d := by
  rw [val_main_v69_apply, val_main_v68_apply, val_main_v67_apply, val_main_call0_v4_apply, val_main_call0_v2_apply, val_main_call0_v1_apply,
    val_main_v66_apply, val_main_v65_apply, val_main_v64_apply, val_main_v63_apply, val_main_v62_apply, val_main_v61_apply, val_main_v60_apply, val_main_v59_apply,
    val_main_v58_apply, val_main_v57_apply, val_main_v56_apply, val_main_v55_apply, val_main_v54_apply, val_main_v53_apply, v43_apply,
    col s (idx_main_v53 _) rfl, col s (idx_main_v56 _) rfl, v44_apply, val_main_v52_apply, val_main_v51_apply, val_main_v50_apply, val_main_v49_apply, v46_apply]
  have e : idx_main_v59 (ValueIdx.ix2 d s) = ValueIdx.ix2 s d := funext fun t => match t with
    | ⟨0, _⟩ => rfl
    | ⟨1, _⟩ => rfl
  rw [e]
  rfl

/-- Two arrays joined by rows. -/
theorem concat2 (p : S768x81920.Idx → BitVec 8) (q : S8x81920.Idx → BitVec 8) (h) (a : Fin 776) (b : Fin 81920) :
    concatenate S776x81920 0 [⟨S768x81920, p⟩, ⟨S8x81920, q⟩] h (ValueIdx.ix2 a b)
      = if h : a.val < 768 then p (ValueIdx.ix2 (⟨a.val, h⟩ : Fin 768) b) else q (ValueIdx.ix2 (⟨a.val - 768, by omega⟩ : Fin 8) b) := by
  by_cases h : a.val < 768
  · rw [dif_pos h]
    refine concatenate_pair_apply_left (t := S776x81920) 0 p q _ _ rfl _ fun b => ?_
    match b with
    | ⟨0, _⟩ => rfl
    | ⟨1, _⟩ => rfl
  · rw [dif_neg h]
    refine concatenate_pair_apply_right (t := S776x81920) 0 p q _ _ rfl rfl _ (fun b hb => ?_) ?_
    · match b with
      | ⟨0, _⟩ => exact absurd rfl hb
      | ⟨1, _⟩ => rfl
    · show a.val - 768 + 768 = a.val; omega

/-- The reference's bytes. -/
theorem v71_eq : val_main_v71 x0 x1 x2 = Upd.rows x0 x1 x2 := by
  funext y
  obtain ⟨a, b, rfl⟩ : ∃ (a : Fin 776) (b : Fin 81920), y = ValueIdx.ix2 a b := ⟨y 0, y 1, ValueIdx.eq_ix2 y⟩
  unfold val_main_v71
  refine (concat2 _ _ _ a b).trans ?_
  show _ = if h : a.val < 768 then Upd.slotCode x0 x1 x2 b ⟨a.val, h⟩ else 0#8
  by_cases h : a.val < 768
  · rw [dif_pos h, dif_pos h]; exact v69_apply x0 x1 x2 _ _
  · rw [dif_neg h, dif_neg h, val_main_v70_apply]; rfl

/-- The reference's row bytes, -/
theorem v72_eq : val_main_v72 x0 x1 x2 = Upd.rowBytes x0 x1 x2 := by
  funext y
  obtain ⟨a, b, rfl⟩ : ∃ (a : Fin 81920) (b : Fin 776), y = ValueIdx.ix2 a b := ⟨y 0, y 1, ValueIdx.eq_ix2 y⟩
  rw [val_main_v72_apply, v71_eq]
  refine congrArg (Upd.rows x0 x1 x2) (funext fun t => match t with
    | ⟨0, _⟩ => rfl
    | ⟨1, _⟩ => rfl)

/-- new scales, -/
theorem v48_eq : val_main_v48 x0 x1 = Upd.newScale x0 x1 := by
  funext y
  obtain ⟨a, rfl⟩ : ∃ a : Fin 81920, y = ValueIdx.ix1 a := ⟨y 0, col _ _ rfl⟩
  exact v48_apply x0 x1 a

/-- new biases -/
theorem v44_eq : val_main_v44 x0 x1 = Upd.newBias x0 x1 := by
  funext y
  obtain ⟨a, rfl⟩ : ∃ a : Fin 81920, y = ValueIdx.ix1 a := ⟨y 0, col _ _ rfl⟩
  exact v44_apply x0 x1 a

/-- and new states. -/
theorem v28_eq : val_main_v28 x0 x1 = Upd.newState x0 x1 := by
  funext y
  obtain ⟨a, rfl⟩ : ∃ a : Fin 81920, y = ValueIdx.ix1 a := ⟨y 0, col _ _ rfl⟩
  exact v28_apply x0 x1 a

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KFrame
public import proofs.«01_k».proof.Proof.KRun
public import proofs.«01_k».proof.Proof.KFinal
public import proofs.«01_k».proof.Proof.RVal
public import Idealize.ShloMosaic.Adequacy
public import Idealize.ShloMosaic.Init

@[expose] public section

noncomputable section

namespace Cert.Proof

open Idealize.ShloMosaic Idealize.SL.Sem

/-- The kernel as printed runs to its end, leaves its arguments alone and leaves every semaphore counter at zero. -/
theorem frame_kernel : Cert.quiescent_Kernel := fun m ρ _ => Cert.Kernel.Hand.frame m ρ

/-- The same of the kernel read over the extended reals. -/
theorem frame_kernelIdeal : Cert.quiescent_KernelIdeal := fun m ρ _ => Cert.KernelIdeal.Hand.frame m ρ

/-- The same of the reference; it declares no semaphore. -/
theorem frame_reference : Cert.quiescent_ReferenceIdeal := fun m ρ _ =>
  (θ_run Cert.ReferenceIdeal.defs _ _).mono (fun r h => ⟨fun c => (h c).2.2.2.2,
    Idealize.ShloMosaic.sem_eq_zero_of_no_sems (by decide) r.2⟩) (Cert.ReferenceIdeal.Value.run m ρ)

/-- Over the extended reals, from equal arguments, the kernel and the reference end with equal results: the row bytes,
    new scales, new biases and new states of `Spec.lean`, the arguments themselves unchanged. -/
theorem algebraic : Cert.algebraic_KernelIdeal_ReferenceIdeal := fun m g m' g' _ hargs =>
  ⟨fun c => Cert.Upd.rowBytes (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Upd.newScale (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Upd.newBias (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Upd.newState (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hand.value m g,
    (θ_run Cert.ReferenceIdeal.defs _ _).mono (fun r h c => by
      obtain ⟨e0, e1, e2⟩ := hargs c
      obtain ⟨h1, h2, h3, h4, hr⟩ := h c
      refine ⟨h1.trans ?_, h2.trans ?_, h3.trans ?_, h4.trans ?_, hr⟩
      · rw [Cert.ReferenceIdeal.Read.val_main_v72_eq, Cert.ReferenceIdeal.Val.v72_eq, e0, e1, e2]
      · rw [Cert.ReferenceIdeal.Read.val_main_v48_eq, Cert.ReferenceIdeal.Val.v48_eq, e0, e1]
      · refine (Cert.ReferenceIdeal.Read.val_main_v44_eq (F := Ideal) _ _).trans ?_
        rw [Cert.ReferenceIdeal.Val.v44_eq, e0, e1]
      · refine (Cert.ReferenceIdeal.Read.val_main_v28_eq (F := Ideal) _ _).trans ?_
        rw [Cert.ReferenceIdeal.Val.v28_eq, e0, e1]) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
